-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x2048x1024 : Shape := ⟨3, ![16, 2048, 1024]⟩
abbrev S2x1024 : Shape := ⟨2, ![2, 1024]⟩
abbrev S1x1024x3088 : Shape := ⟨3, ![1, 1024, 3088]⟩
abbrev S1x3088 : Shape := ⟨2, ![1, 3088]⟩
abbrev S1x1024 : Shape := ⟨2, ![1, 1024]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S1024 : Shape := ⟨1, ![1024]⟩
abbrev S_ : Shape := ⟨0, ![]⟩

class Facts : Prop where
  slices_S2x1024_S1x1024_1_0 : S2x1024.Slices ![1, 0] S1x1024
  shapeCasts_S1x1024_S1024 : S1x1024.ShapeCasts S1024
  bcast_S_S1024 : S_.BroadcastsInDim S1024 (![] : Fin 0 → Fin S1024.rank)
  reducesTo_S1024_S_d0 : S1024.ReducesTo [0] S_
  h_S_ : 0 < S_.numel
  bcast_S_S1x1024x3088 : S_.BroadcastsInDim S1x1024x3088 (![] : Fin 0 → Fin S1x1024x3088.rank)
  reducesTo_S1x1024x3088_S_d0_1_2 : S1x1024x3088.ReducesTo [0, 1, 2] S_
  bcast_S_S1x3088 : S_.BroadcastsInDim S1x3088 (![] : Fin 0 → Fin S1x3088.rank)
  reducesTo_S1x3088_S_d0_1 : S1x3088.ReducesTo [0, 1] S_

variable [Facts]

def fn {F : FTy → Type} [FloatOps F] (main_arg0 : FVec F S16x2048x1024 .f32) (main_arg1 : FVec F S2x1024 .f32) (main_arg2 : FVec F S2x1024 .f32) (main_arg3 : FVec F S2x1024 .f32) (main_arg4 : FVec F S2x1024 .f32) (main_arg5 : FVec F S1x1024x3088 .f32) (main_arg6 : FVec F S1x3088 .f32) (main_arg7 : FVec F S1x1024 .f32) (main_arg8 : FVec F S1x1024x1024 .f32) (main_arg9 : FVec F S2x1024x2816 .f32) (main_arg10 : FVec F S2x1024x2816 .f32) (main_arg11 : FVec F S2x2816x1024 .f32) : IVec S_ 1 :=
  let main_v0 : FVec F S1x1024 .f32 := (extractStridedSlice S1x1024 ![1, 0] · slices_S2x1024_S1x1024_1_0) main_arg1
  let main_v1 : FVec F S1024 .f32 := shapeCast S1024 main_v0 shapeCasts_S1x1024_S1024
  let main_v2 : FVec F S1024 .f32 := Host.absf main_v1
  let main_cst : FVec F S_ .f32 := constant S_ .f32 0x7F800000#32
  let main_v3 : FVec F S1024 .f32 := broadcastInDim S1024 ![] bcast_S_S1024 main_cst
  let main_v4 : IVec S1024 1 := cmpf .olt main_v2 main_v3
  let main_c : IVec S_ 1 := constantI S_ 1 1#1
  let main_v5 : IVec S_ 1 := (fun x v => Host.reduce IntOp.andi x v reducesTo_S1024_S_d0 h_S_) main_v4 main_c
  let main_v6 : FVec F S1x1024x3088 .f32 := Host.absf main_arg5
  let main_cst_0 : FVec F S_ .f32 := constant S_ .f32 0x7F800000#32
  let main_v7 : FVec F S1x1024x3088 .f32 := broadcastInDim S1x1024x3088 ![] bcast_S_S1x1024x3088 main_cst_0
  let main_v8 : IVec S1x1024x3088 1 := cmpf .olt main_v6 main_v7
  let main_c_1 : IVec S_ 1 := constantI S_ 1 1#1
  let main_v9 : IVec S_ 1 := (fun x v => Host.reduce IntOp.andi x v reducesTo_S1x1024x3088_S_d0_1_2 h_S_) main_v8 main_c_1
  let main_v10 : IVec S_ 1 := andi main_v5 main_v9
  let main_v11 : FVec F S1x3088 .f32 := Host.absf main_arg6
  let main_cst_2 : FVec F S_ .f32 := constant S_ .f32 0x7F800000#32
  let main_v12 : FVec F S1x3088 .f32 := broadcastInDim S1x3088 ![] bcast_S_S1x3088 main_cst_2
  let main_v13 : IVec S1x3088 1 := cmpf .olt main_v11 main_v12
  let main_c_3 : IVec S_ 1 := constantI S_ 1 1#1
  let main_v14 : IVec S_ 1 := (fun x v => Host.reduce IntOp.andi x v reducesTo_S1x3088_S_d0_1 h_S_) main_v13 main_c_3
  let main_v15 : IVec S_ 1 := andi main_v10 main_v14
  main_v15
-- ==== Kernel.lean ====
abbrev S16x2048x1024 : Shape := ⟨3, ![16, 2048, 1024]⟩
abbrev S2x1024 : Shape := ⟨2, ![2, 1024]⟩
abbrev S1x1024x3088 : Shape := ⟨3, ![1, 1024, 3088]⟩
abbrev S1x3088 : Shape := ⟨2, ![1, 3088]⟩
abbrev S1x1024 : Shape := ⟨2, ![1, 1024]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S1024 : Shape := ⟨1, ![1024]⟩
abbrev S1024x3088 : Shape := ⟨2, ![1024, 3088]⟩
abbrev S3088 : Shape := ⟨1, ![3088]⟩
abbrev S_ : Shape := ⟨0, ![]⟩
abbrev S1024x256 : Shape := ⟨2, ![1024, 256]⟩
abbrev S1024x8 : Shape := ⟨2, ![1024, 8]⟩
abbrev S1 : Shape := ⟨1, ![1]⟩
abbrev S1x256 : Shape := ⟨2, ![1, 256]⟩
abbrev S8 : Shape := ⟨1, ![8]⟩
abbrev S2 : Shape := ⟨1, ![2]⟩
abbrev S1024x3072 : Shape := ⟨2, ![1024, 3072]⟩
abbrev S3072 : Shape := ⟨1, ![3072]⟩
abbrev S1x3072 : Shape := ⟨2, ![1, 3072]⟩
abbrev S1024x1024 : Shape := ⟨2, ![1024, 1024]⟩
abbrev S1x512x1024 : Shape := ⟨3, ![1, 512, 1024]⟩
abbrev S1x1024x2816 : Shape := ⟨3, ![1, 1024, 2816]⟩
abbrev S1x2816x1024 : Shape := ⟨3, ![1, 2816, 1024]⟩
abbrev S4x128x256 : Shape := ⟨3, ![4, 128, 256]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x1024 : Shape := ⟨2, ![256, 1024]⟩
abbrev S256x3072 : Shape := ⟨2, ![256, 3072]⟩
abbrev S512x3072 : Shape := ⟨2, ![512, 3072]⟩
abbrev S256x256 : Shape := ⟨2, ![256, 256]⟩
abbrev S256x128 : Shape := ⟨2, ![256, 128]⟩
abbrev S128x256 : Shape := ⟨2, ![128, 256]⟩
abbrev S1x128 : Shape := ⟨2, ![1, 128]⟩
abbrev S128 : Shape := ⟨1, ![128]⟩
abbrev S1x128x256 : Shape := ⟨3, ![1, 128, 256]⟩
abbrev S256x1 : Shape := ⟨2, ![256, 1]⟩
abbrev S256 : Shape := ⟨1, ![256]⟩
abbrev S1x1 : Shape := ⟨2, ![1, 1]⟩
abbrev S1x1024x768 : Shape := ⟨3, ![1, 1024, 768]⟩
abbrev S1024x768 : Shape := ⟨2, ![1024, 768]⟩
abbrev S256x768 : Shape := ⟨2, ![256, 768]⟩
abbrev S512x768 : Shape := ⟨2, ![512, 768]⟩
abbrev S1x1024x512 : Shape := ⟨3, ![1, 1024, 512]⟩
abbrev S1024x512 : Shape := ⟨2, ![1024, 512]⟩
abbrev S512x512 : Shape := ⟨2, ![512, 512]⟩
abbrev S512x2816 : Shape := ⟨2, ![512, 2816]⟩
abbrev S2816x1024 : Shape := ⟨2, ![2816, 1024]⟩
abbrev S256x2816 : Shape := ⟨2, ![256, 2816]⟩

abbrev nBuf : Space → Nat
  | .hbm => 65
  | .vmem => 22
  | .smem => 0
  | _ => 0

abbrev bufTy : (tb : Table) → Fin (tcTables nBuf tb) → BufTy
  | .hbm, ⟨0, _⟩ => ⟨S16x2048x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S1x1024x3088, .f32⟩
  | .hbm, ⟨6, _⟩ => ⟨S1x3088, .f32⟩
  | .hbm, ⟨7, _⟩ => ⟨S1x1024, .f32⟩
  | .hbm, ⟨8, _⟩ => ⟨S1x1024x1024, .f32⟩
  | .hbm, ⟨9, _⟩ => ⟨S2x1024x2816, .f32⟩
  | .hbm, ⟨10, _⟩ => ⟨S2x1024x2816, .f32⟩
  | .hbm, ⟨11, _⟩ => ⟨S2x2816x1024, .f32⟩
  | .hbm, ⟨12, _⟩ => ⟨S2x1024x2816, .bf16⟩
  | .hbm, ⟨13, _⟩ => ⟨S2x1024x2816, .bf16⟩
  | .hbm, ⟨14, _⟩ => ⟨S2x2816x1024, .bf16⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S1024x3088, .f32⟩
  | .hbm, ⟨22, _⟩ => ⟨S3088, .f32⟩
  | .hbm, ⟨23, _⟩ => ⟨S_, .f32⟩
  | .hbm, ⟨24, _⟩ => ⟨S1024x256, .f32⟩
  | .hbm, ⟨25, _⟩ => ⟨S1024x8, .f32⟩
  | .hbm, ⟨26, _⟩ => ⟨S_, .i32⟩
  | .hbm, ⟨27, _⟩ => ⟨S1, .i32⟩
  | .hbm, ⟨28, _⟩ => ⟨S1024x256, .f32⟩
  | .hbm, ⟨29, _⟩ => ⟨S1024x8, .f32⟩
  | .hbm, ⟨30, _⟩ => ⟨S_, .i32⟩
  | .hbm, ⟨31, _⟩ => ⟨S1, .i32⟩
  | .hbm, ⟨32, _⟩ => ⟨S1024x256, .f32⟩
  | .hbm, ⟨33, _⟩ => ⟨S_, .f32⟩
  | .hbm, ⟨34, _⟩ => ⟨S1x256, .f32⟩
  | .hbm, ⟨35, _⟩ => ⟨S8, .f32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S1, .i32⟩
  | .hbm, ⟨40, _⟩ => ⟨S2, .i32⟩
  | .hbm, ⟨41, _⟩ => ⟨S1x256, .f32⟩
  | .hbm, ⟨42, _⟩ => ⟨S8, .f32⟩
  | .hbm, ⟨43, _⟩ => ⟨S_, .i32⟩
  | .hbm, ⟨44, _⟩ => ⟨S1, .i32⟩
  | .hbm, ⟨45, _⟩ => ⟨S_, .i32⟩
  | .hbm, ⟨46, _⟩ => ⟨S1, .i32⟩
  | .hbm, ⟨47, _⟩ => ⟨S2, .i32⟩
  | .hbm, ⟨48, _⟩ => ⟨S1x256, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S1x1024, .f32⟩
  | .hbm, ⟨53, _⟩ => ⟨S1024, .f32⟩
  | .hbm, ⟨54, _⟩ => ⟨S1x1024, .f32⟩
  | .hbm, ⟨55, _⟩ => ⟨S1024x3072, .f32⟩
  | .hbm, ⟨56, _⟩ => ⟨S1024x3072, .bf16⟩
  | .hbm, ⟨57, _⟩ => ⟨S3072, .f32⟩
  | .hbm, ⟨58, _⟩ => ⟨S1x3072, .f32⟩
  | .hbm, ⟨59, _⟩ => ⟨S1024x256, .bf16⟩
  | .hbm, ⟨60, _⟩ => ⟨S1024, .f32⟩
  | .hbm, ⟨61, _⟩ => ⟨S1x1024, .f32⟩
  | .hbm, ⟨62, _⟩ => ⟨S1024x1024, .f32⟩
  | .hbm, ⟨63, _⟩ => ⟨S1024x1024, .bf16⟩
  | .hbm, ⟨64, _⟩ => ⟨S16x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1024, .f32⟩
  | .local _ .vmem, ⟨4, _⟩ => ⟨S1024x3072, .bf16⟩
  | .local _ .vmem, ⟨5, _⟩ => ⟨S1x3072, .f32⟩
  | .local _ .vmem, ⟨6, _⟩ => ⟨S1024x256, .bf16⟩
  | .local _ .vmem, ⟨7, _⟩ => ⟨S1x256, .f32⟩
  | .local _ .vmem, ⟨8, _⟩ => ⟨S1x1024, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x1024x2816, .bf16⟩
  | .local _ .vmem, ⟨13, _⟩ => ⟨S1x1024x2816, .bf16⟩
  | .local _ .vmem, ⟨14, _⟩ => ⟨S1x2816x1024, .bf16⟩
  | .local _ .vmem, ⟨15, _⟩ => ⟨S1x512x1024, .f32⟩
  | .local _ .vmem, ⟨16, _⟩ => ⟨S1x512x1024, .f32⟩
  | .local _ .vmem, ⟨17, _⟩ => ⟨S4x128x256, .f32⟩
  | .local _ .vmem, ⟨18, _⟩ => ⟨S8x128, .f32⟩
  | .local _ .vmem, ⟨19, _⟩ => ⟨S8x128, .f32⟩
  | .local _ .vmem, ⟨20, _⟩ => ⟨S512x1024, .bf16⟩
  | .local _ .vmem, ⟨21, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_c : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_0 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_v20 : Ref sig .tc := ⟨.hbm, 37, rfl⟩
abbrev main_c_3 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![65], ![false]⟩

def k0_cond3 (i : grid0.Coords) : BitVec 1 :=
  let arg0 : BitVec 32 := BitVec.ofNat 32 (i 0).val
  let c64_i32_3 : BitVec 32 := 64#32
  let v9 : BitVec 1 := Scalar.cmpi .eq arg0 c64_i32_3
  let v10 : BitVec 32 := Scalar.extui v9
  let c0_i32_4 : BitVec 32 := 0#32
  let v11 : BitVec 1 := Scalar.cmpi .ne v10 c0_i32_4
  v11

def k0_cond4 (i : grid0.Coords) : BitVec 1 :=
  let arg0 : BitVec 32 := BitVec.ofNat 32 (i 0).val
  let c0_i32_5 : BitVec 32 := 0#32
  let v12 : BitVec 1 := Scalar.cmpi .sgt arg0 c0_i32_5
  let c64_i32_6 : BitVec 32 := 64#32
  let v13 : BitVec 1 := Scalar.cmpi .slt arg0 c64_i32_6
  let v14 : BitVec 1 := Scalar.andi v12 v13
  let v15 : BitVec 32 := Scalar.extui v14
  let c0_i32_7 : BitVec 32 := 0#32
  let v16 : BitVec 1 := Scalar.cmpi .ne v15 c0_i32_7
  v16

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c4_i32 : BitVec 32 := 4#32
  let v1 : BitVec 32 := Scalar.divsi v0 c4_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4_i32 c0_i32_1
  let v8 : BitVec 32 := Scalar.extui v7
  let c0_i32_2 : BitVec 32 := 0#32
  let v9 : BitVec 1 := Scalar.cmpi .slt c4_i32 c0_i32_2
  let v10 : BitVec 32 := Scalar.extui v9
  let v11 : BitVec 32 := Scalar.subi v8 v10
  let v12 : BitVec 1 := Scalar.cmpi .ne v6 v11
  let v13 : BitVec 32 := Scalar.remsi v0 c4_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi v0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, v27.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_13 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_14 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c4_i32_6 : BitVec 32 := 4#32
  let c0_i32_7 : BitVec 32 := 0#32
  let v19 : BitVec 1 := Scalar.cmpi .eq c4_i32_6 c0_i32_7
  let c1_i32_8 : BitVec 32 := 1#32
  let v20 : BitVec 32 := Scalar.select v19 c1_i32_8 c4_i32_6
  let v21 : BitVec 32 := Scalar.remsi v1 v20
  let c0_i32_9 : BitVec 32 := 0#32
  let v22 : BitVec 1 := Scalar.cmpi .ne v21 c0_i32_9
  let c0_i32_10 : BitVec 32 := 0#32
  let v23 : BitVec 1 := Scalar.cmpi .slt v21 c0_i32_10
  let c0_i32_11 : BitVec 32 := 0#32
  let v24 : BitVec 1 := Scalar.cmpi .slt v20 c0_i32_11
  let v25 : BitVec 1 := Scalar.xori v23 v24
  let v26 : BitVec 1 := Scalar.andi v25 v22
  let v27 : BitVec 32 := Scalar.addi v21 v20
  let v28 : BitVec 32 := Scalar.select v26 v27 v21
  let c0_i32_12 : BitVec 32 := 0#32
  let c0_i32_13 : BitVec 32 := 0#32
  ![v18.toNat, v28.toNat, c0_i32_12.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024x2816 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2816x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S16x2048x1024 : Shape := ⟨3, ![16, 2048, 1024]⟩
abbrev S2x1024 : Shape := ⟨2, ![2, 1024]⟩
abbrev S1x1024x3088 : Shape := ⟨3, ![1, 1024, 3088]⟩
abbrev S1x3088 : Shape := ⟨2, ![1, 3088]⟩
abbrev S1x1024 : Shape := ⟨2, ![1, 1024]⟩
abbrev S1x1024x1024 : Shape := ⟨3, ![1, 1024, 1024]⟩
abbrev S2x1024x2816 : Shape := ⟨3, ![2, 1024, 2816]⟩
abbrev S2x2816x1024 : Shape := ⟨3, ![2, 2816, 1024]⟩
abbrev S1024 : Shape := ⟨1, ![1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S1024x3088 : Shape := ⟨2, ![1024, 3088]⟩
abbrev S3088 : Shape := ⟨1, ![3088]⟩
abbrev S1024x1024 : Shape := ⟨2, ![1024, 1024]⟩
abbrev S16x2048x3088 : Shape := ⟨3, ![16, 2048, 3088]⟩
abbrev S1x1x3088 : Shape := ⟨3, ![1, 1, 3088]⟩
abbrev S16x2048x512 : Shape := ⟨3, ![16, 2048, 512]⟩
abbrev S16x2048x8 : Shape := ⟨3, ![16, 2048, 8]⟩
abbrev S16x32x64x8x64 : Shape := ⟨5, ![16, 32, 64, 8, 64]⟩
abbrev S32x16x8x64x64 : Shape := ⟨5, ![32, 16, 8, 64, 64]⟩
abbrev S16x32x64x8x128 : Shape := ⟨5, ![16, 32, 64, 8, 128]⟩
abbrev S32x16x8x64x128 : Shape := ⟨5, ![32, 16, 8, 64, 128]⟩
abbrev S16x32x64x8 : Shape := ⟨4, ![16, 32, 64, 8]⟩
abbrev S32x16x8x64 : Shape := ⟨4, ![32, 16, 8, 64]⟩
abbrev S16x8x64x128 : Shape := ⟨4, ![16, 8, 64, 128]⟩
abbrev S16x8x64 : Shape := ⟨3, ![16, 8, 64]⟩
abbrev S16x8 : Shape := ⟨2, ![16, 8]⟩
abbrev S1x16x8x64x64 : Shape := ⟨5, ![1, 16, 8, 64, 64]⟩
abbrev S16x8x64x64 : Shape := ⟨4, ![16, 8, 64, 64]⟩
abbrev S1x16x8x64x128 : Shape := ⟨5, ![1, 16, 8, 64, 128]⟩
abbrev S1x16x8x64 : Shape := ⟨4, ![1, 16, 8, 64]⟩
abbrev S64x64 : Shape := ⟨2, ![64, 64]⟩
abbrev S16x8x64x1 : Shape := ⟨4, ![16, 8, 64, 1]⟩
abbrev S16x8x1x64 : Shape := ⟨4, ![16, 8, 1, 64]⟩
abbrev S16x8x1 : Shape := ⟨3, ![16, 8, 1]⟩
abbrev S16x8x1x1 : Shape := ⟨4, ![16, 8, 1, 1]⟩
abbrev S16x2048x8x128 : Shape := ⟨4, ![16, 2048, 8, 128]⟩
abbrev S16x2048x8x1 : Shape := ⟨4, ![16, 2048, 8, 1]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S16x2048x2816 : Shape := ⟨3, ![16, 2048, 2816]⟩

abbrev nBuf : Space → Nat
  | .hbm => 323
  | .vmem => 0
  | .smem => 0
  | _ => 0

abbrev hbmTy0_0 (i : Nat) : BufTy := match i % 128 with
  | 0 => ⟨S16x2048x1024, .f32⟩
  | 1 => ⟨S2x1024, .f32⟩
  | 2 => ⟨S2x1024, .f32⟩
  | 3 => ⟨S2x1024, .f32⟩
  | 4 => ⟨S2x1024, .f32⟩
  | 5 => ⟨S1x1024x3088, .f32⟩
  | 6 => ⟨S1x3088, .f32⟩
  | 7 => ⟨S1x1024, .f32⟩
  | 8 => ⟨S1x1024x1024, .f32⟩
  | 9 => ⟨S2x1024x2816, .f32⟩
  | 10 => ⟨S2x1024x2816, .f32⟩
  | 11 => ⟨S2x2816x1024, .f32⟩
  | 12 => ⟨S1x1024, .f32⟩
  | 13 => ⟨S1024, .f32⟩
  | 14 => ⟨S16x2048x1024, .f32⟩
  | 15 => ⟨S_, .f32⟩
  | 16 => ⟨S16x2048, .f32⟩
  | 17 => ⟨S16x2048x1, .f32⟩
  | 18 => ⟨S_, .f32⟩
  | 19 => ⟨S16x2048x1, .f32⟩
  | 20 => ⟨S16x2048x1, .f32⟩
  | 21 => ⟨S_, .f32⟩
  | 22 => ⟨S16x2048x1, .f32⟩
  | 23 => ⟨S16x2048x1, .f32⟩
  | 24 => ⟨S16x2048x1, .f32⟩
  | 25 => ⟨S16x2048x1024, .f32⟩
  | 26 => ⟨S16x2048x1024, .f32⟩
  | 27 => ⟨S1x1x1024, .f32⟩
  | 28 => ⟨S16x2048x1024, .f32⟩
  | 29 => ⟨S16x2048x1024, .f32⟩
  | 30 => ⟨S1024x3088, .f32⟩
  | 31 => ⟨S3088, .f32⟩
  | 32 => ⟨S1024, .f32⟩
  | 33 => ⟨S1024x1024, .f32⟩
  | 34 => ⟨S16x2048x3088, .f32⟩
  | 35 => ⟨S1x1x3088, .f32⟩
  | 36 => ⟨S16x2048x3088, .f32⟩
  | 37 => ⟨S16x2048x3088, .f32⟩
  | 38 => ⟨S16x2048x512, .f32⟩
  | 39 => ⟨S16x2048x512, .f32⟩
  | 40 => ⟨S16x2048x1024, .f32⟩
  | 41 => ⟨S16x2048x1024, .f32⟩
  | 42 => ⟨S16x2048x8, .f32⟩
  | 43 => ⟨S16x2048x8, .f32⟩
  | 44 => ⟨S16x32x64x8x64, .f32⟩
  | 45 => ⟨S32x16x8x64x64, .f32⟩
  | 46 => ⟨S16x32x64x8x64, .f32⟩
  | 47 => ⟨S32x16x8x64x64, .f32⟩
  | 48 => ⟨S_, .f32⟩
  | 49 => ⟨S32x16x8x64x64, .f32⟩
  | 50 => ⟨S32x16x8x64x64, .f32⟩
  | 51 => ⟨S16x32x64x8x128, .f32⟩
  | 52 => ⟨S32x16x8x64x128, .f32⟩
  | 53 => ⟨S16x32x64x8, .f32⟩
  | 54 => ⟨S32x16x8x64, .f32⟩
  | 55 => ⟨S16x2048x8, .f32⟩
  | 56 => ⟨S_, .f32⟩
  | 57 => ⟨S16x2048x8, .f32⟩
  | 58 => ⟨S16x2048x8, .f32⟩
  | 59 => ⟨S16x2048x8, .f32⟩
  | 60 => ⟨S16x2048x8, .f32⟩
  | 61 => ⟨S16x2048x8, .i1⟩
  | 62 => ⟨S16x2048x8, .f32⟩
  | 63 => ⟨S16x2048x8, .f32⟩
  | 64 => ⟨S16x2048x8, .f32⟩
  | 65 => ⟨S16x2048x8, .f32⟩
  | 66 => ⟨S16x2048x8, .f32⟩
  | 67 => ⟨S16x2048x8, .f32⟩
  | 68 => ⟨S16x2048x8, .f32⟩
  | 69 => ⟨S16x2048x8, .f32⟩
  | 70 => ⟨S16x2048x8, .f32⟩
  | 71 => ⟨S16x32x64x8, .f32⟩
  | 72 => ⟨S32x16x8x64, .f32⟩
  | 73 => ⟨S_, .f32⟩
  | 74 => ⟨S16x8x64x128, .f32⟩
  | 75 => ⟨S_, .f32⟩
  | 76 => ⟨S16x8x64, .f32⟩
  | 77 => ⟨S_, .f32⟩
  | 78 => ⟨S16x8, .f32⟩
  | 79 => ⟨S_, .f32⟩
  | 80 => ⟨S32x16x8x64x128, .f32⟩
  | 81 => ⟨S_, .i32⟩
  | 82 => ⟨S32x16x8x64x64, .f32⟩
  | 83 => ⟨S32x16x8x64x64, .f32⟩
  | 84 => ⟨S32x16x8x64x128, .f32⟩
  | 85 => ⟨S32x16x8x64, .f32⟩
  | 86 => ⟨S32x16x8x64, .f32⟩
  | 87 => ⟨S_, .i32⟩
  | 88 => ⟨S16x8x64x128, .f32⟩
  | 89 => ⟨S16x8x64, .f32⟩
  | 90 => ⟨S16x8, .f32⟩
  | 91 => ⟨S32x16x8x64x128, .f32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S1x16x8x64x64, .f32⟩
  | 99 => ⟨S16x8x64x64, .f32⟩
  | 100 => ⟨S_, .i32⟩
  | 101 => ⟨S_, .i32⟩
  | 102 => ⟨S_, .i32⟩
  | 103 => ⟨S_, .i32⟩
  | 104 => ⟨S1x16x8x64x64, .f32⟩
  | 105 => ⟨S16x8x64x64, .f32⟩
  | 106 => ⟨S_, .i32⟩
  | 107 => ⟨S_, .i32⟩
  | 108 => ⟨S_, .i32⟩
  | 109 => ⟨S_, .i32⟩
  | 110 => ⟨S1x16x8x64x128, .f32⟩
  | 111 => ⟨S16x8x64x128, .f32⟩
  | 112 => ⟨S_, .i32⟩
  | 113 => ⟨S_, .i32⟩
  | 114 => ⟨S_, .i32⟩
  | 115 => ⟨S1x16x8x64, .f32⟩
  | 116 => ⟨S16x8x64, .f32⟩
  | 117 => ⟨S_, .i32⟩
  | 118 => ⟨S_, .i32⟩
  | 119 => ⟨S_, .i32⟩
  | 120 => ⟨S1x16x8x64, .f32⟩
  | 121 => ⟨S16x8x64, .f32⟩
  | 122 => ⟨S_, .i1⟩
  | 123 => ⟨S64x64, .i1⟩
  | 124 => ⟨S64x64, .i32⟩
  | 125 => ⟨S_, .i32⟩
  | 126 => ⟨S64x64, .i32⟩
  | 127 => ⟨S64x64, .i32⟩
  | _ => ⟨S16x2048x1024, .f32⟩

abbrev hbmTy0_1 (i : Nat) : BufTy := match i % 128 with
  | 0 => ⟨S64x64, .i32⟩
  | 1 => ⟨S64x64, .i1⟩
  | 2 => ⟨S_, .i1⟩
  | 3 => ⟨S64x64, .i1⟩
  | 4 => ⟨S64x64, .i1⟩
  | 5 => ⟨S_, .f32⟩
  | 6 => ⟨S_, .f32⟩
  | 7 => ⟨S16x8x64, .f32⟩
  | 8 => ⟨S16x8x64x1, .f32⟩
  | 9 => ⟨S16x8x1x64, .f32⟩
  | 10 => ⟨S16x8x64x64, .f32⟩
  | 11 => ⟨S16x8x64x64, .f32⟩
  | 12 => ⟨S16x8x64x64, .f32⟩
  | 13 => ⟨S16x8x1x64, .f32⟩
  | 14 => ⟨S16x8x64x64, .f32⟩
  | 15 => ⟨S16x8x64x64, .f32⟩
  | 16 => ⟨S_, .f32⟩
  | 17 => ⟨S_, .f32⟩
  | 18 => ⟨S16x8x64x64, .i1⟩
  | 19 => ⟨S16x8x64x64, .f32⟩
  | 20 => ⟨S16x8x64x64, .f32⟩
  | 21 => ⟨S16x8x1, .f32⟩
  | 22 => ⟨S16x8x64, .f32⟩
  | 23 => ⟨S16x8x64, .f32⟩
  | 24 => ⟨S_, .f32⟩
  | 25 => ⟨S16x8x64, .f32⟩
  | 26 => ⟨S16x8x64, .f32⟩
  | 27 => ⟨S16x8x64x1, .f32⟩
  | 28 => ⟨S16x8x64x64, .f32⟩
  | 29 => ⟨S16x8x64x64, .f32⟩
  | 30 => ⟨S16x8x64x64, .f32⟩
  | 31 => ⟨S16x8x64, .f32⟩
  | 32 => ⟨S16x8x64, .f32⟩
  | 33 => ⟨S16x8x64x64, .f32⟩
  | 34 => ⟨S16x8x64x64, .f32⟩
  | 35 => ⟨S16x8x64x128, .f32⟩
  | 36 => ⟨S16x8x64x1, .f32⟩
  | 37 => ⟨S16x8x64x128, .f32⟩
  | 38 => ⟨S16x8x64x128, .f32⟩
  | 39 => ⟨S16x8x64x128, .f32⟩
  | 40 => ⟨S16x8x64x128, .f32⟩
  | 41 => ⟨S_, .f32⟩
  | 42 => ⟨S16x8x64, .f32⟩
  | 43 => ⟨S16x8x64, .f32⟩
  | 44 => ⟨S16x8x64, .f32⟩
  | 45 => ⟨S16x8x64, .f32⟩
  | 46 => ⟨S16x8x64, .f32⟩
  | 47 => ⟨S16x8x64, .f32⟩
  | 48 => ⟨S16x8x64, .f32⟩
  | 49 => ⟨S16x8x64, .f32⟩
  | 50 => ⟨S16x8x64x1, .f32⟩
  | 51 => ⟨S16x8x64x128, .f32⟩
  | 52 => ⟨S16x8x64x128, .f32⟩
  | 53 => ⟨S16x8x1, .f32⟩
  | 54 => ⟨S16x8, .f32⟩
  | 55 => ⟨S16x8x1, .f32⟩
  | 56 => ⟨S16x8x64, .f32⟩
  | 57 => ⟨S16x8x64, .f32⟩
  | 58 => ⟨S16x8x64, .f32⟩
  | 59 => ⟨S16x8, .f32⟩
  | 60 => ⟨S_, .f32⟩
  | 61 => ⟨S16x8, .f32⟩
  | 62 => ⟨S16x8, .f32⟩
  | 63 => ⟨S16x8x1, .f32⟩
  | 64 => ⟨S16x8x64, .f32⟩
  | 65 => ⟨S16x8x64, .f32⟩
  | 66 => ⟨S16x8x64, .f32⟩
  | 67 => ⟨S16x8, .f32⟩
  | 68 => ⟨S16x8, .f32⟩
  | 69 => ⟨S16x8, .f32⟩
  | 70 => ⟨S16x8x1x1, .f32⟩
  | 71 => ⟨S16x8x64x128, .f32⟩
  | 72 => ⟨S16x8x64x128, .f32⟩
  | 73 => ⟨S16x8x64x1, .f32⟩
  | 74 => ⟨S16x8x64x64, .f32⟩
  | 75 => ⟨S16x8x64x64, .f32⟩
  | 76 => ⟨S16x8x64x128, .f32⟩
  | 77 => ⟨S16x8x64x128, .f32⟩
  | 78 => ⟨S16x8x1, .f32⟩
  | 79 => ⟨S16x8x64, .f32⟩
  | 80 => ⟨S16x8x64, .f32⟩
  | 81 => ⟨S16x8x64, .f32⟩
  | 82 => ⟨S16x8x64, .f32⟩
  | 83 => ⟨S1x16x8x64x128, .f32⟩
  | 84 => ⟨S_, .i32⟩
  | 85 => ⟨S_, .i32⟩
  | 86 => ⟨S_, .i32⟩
  | 87 => ⟨S_, .i32⟩
  | 88 => ⟨S32x16x8x64x128, .f32⟩
  | 89 => ⟨S_, .i32⟩
  | 90 => ⟨S_, .i32⟩
  | 91 => ⟨S16x32x64x8x128, .f32⟩
  | 92 => ⟨S16x2048x8x128, .f32⟩
  | 93 => ⟨S16x2048x8x128, .f32⟩
  | 94 => ⟨S_, .f32⟩
  | 95 => ⟨S16x2048x8, .f32⟩
  | 96 => ⟨S16x2048x8x1, .f32⟩
  | 97 => ⟨S_, .f32⟩
  | 98 => ⟨S16x2048x8x1, .f32⟩
  | 99 => ⟨S16x2048x8x1, .f32⟩
  | 100 => ⟨S_, .f32⟩
  | 101 => ⟨S16x2048x8x1, .f32⟩
  | 102 => ⟨S16x2048x8x1, .f32⟩
  | 103 => ⟨S16x2048x8x1, .f32⟩
  | 104 => ⟨S16x2048x8x128, .f32⟩
  | 105 => ⟨S16x2048x8x128, .f32⟩
  | 106 => ⟨S16x2048x1024, .f32⟩
  | 107 => ⟨S1x1x1024, .f32⟩
  | 108 => ⟨S16x2048x1024, .f32⟩
  | 109 => ⟨S16x2048x1024, .f32⟩
  | 110 => ⟨S16x2048x1024, .f32⟩
  | 111 => ⟨S16x2048x1024, .f32⟩
  | 112 => ⟨S_, .f32⟩
  | 113 => ⟨S16x2048x1024, .f32⟩
  | 114 => ⟨S16x2048x1024, .f32⟩
  | 115 => ⟨S_, .f32⟩
  | 116 => ⟨S16x2048x1024, .f32⟩
  | 117 => ⟨S16x2048x1024, .f32⟩
  | 118 => ⟨S16x2048x1024, .f32⟩
  | 119 => ⟨S16x2048x1024, .f32⟩
  | 120 => ⟨S1x1024, .f32⟩
  | 121 => ⟨S1024, .f32⟩
  | 122 => ⟨S16x2048x1024, .f32⟩
  | 123 => ⟨S_, .f32⟩
  | 124 => ⟨S16x2048, .f32⟩
  | 125 => ⟨S16x2048x1, .f32⟩
  | 126 => ⟨S_, .f32⟩
  | 127 => ⟨S16x2048x1, .f32⟩
  | _ => ⟨S16x2048x1024, .f32⟩

abbrev hbmTy0_2 (i : Nat) : BufTy := match i % 128 with
  | 0 => ⟨S16x2048x1, .f32⟩
  | 1 => ⟨S_, .f32⟩
  | 2 => ⟨S16x2048x1, .f32⟩
  | 3 => ⟨S16x2048x1, .f32⟩
  | 4 => ⟨S16x2048x1, .f32⟩
  | 5 => ⟨S16x2048x1024, .f32⟩
  | 6 => ⟨S16x2048x1024, .f32⟩
  | 7 => ⟨S1x1x1024, .f32⟩
  | 8 => ⟨S16x2048x1024, .f32⟩
  | 9 => ⟨S16x2048x1024, .f32⟩
  | 10 => ⟨S16x2048x1024, .f32⟩
  | 11 => ⟨S1x1024, .f32⟩
  | 12 => ⟨S1024, .f32⟩
  | 13 => ⟨S16x2048x1024, .f32⟩
  | 14 => ⟨S_, .f32⟩
  | 15 => ⟨S16x2048, .f32⟩
  | 16 => ⟨S16x2048x1, .f32⟩
  | 17 => ⟨S_, .f32⟩
  | 18 => ⟨S16x2048x1, .f32⟩
  | 19 => ⟨S16x2048x1, .f32⟩
  | 20 => ⟨S_, .f32⟩
  | 21 => ⟨S16x2048x1, .f32⟩
  | 22 => ⟨S16x2048x1, .f32⟩
  | 23 => ⟨S16x2048x1, .f32⟩
  | 24 => ⟨S16x2048x1024, .f32⟩
  | 25 => ⟨S16x2048x1024, .f32⟩
  | 26 => ⟨S1x1x1024, .f32⟩
  | 27 => ⟨S16x2048x1024, .f32⟩
  | 28 => ⟨S16x2048x1024, .f32⟩
  | 29 => ⟨S1x1024x2816, .f32⟩
  | 30 => ⟨S1024x2816, .f32⟩
  | 31 => ⟨S1x1024x2816, .f32⟩
  | 32 => ⟨S1024x2816, .f32⟩
  | 33 => ⟨S1x2816x1024, .f32⟩
  | 34 => ⟨S2816x1024, .f32⟩
  | 35 => ⟨S16x2048x2816, .f32⟩
  | 36 => ⟨S16x2048x2816, .f32⟩
  | 37 => ⟨S16x2048x2816, .f32⟩
  | 38 => ⟨S16x2048x2816, .f32⟩
  | 39 => ⟨S_, .f32⟩
  | 40 => ⟨S16x2048x2816, .f32⟩
  | 41 => ⟨S16x2048x2816, .f32⟩
  | 42 => ⟨S_, .f32⟩
  | 43 => ⟨S16x2048x2816, .f32⟩
  | 44 => ⟨S16x2048x2816, .f32⟩
  | 45 => ⟨S16x2048x2816, .f32⟩
  | 46 => ⟨S16x2048x2816, .f32⟩
  | 47 => ⟨S16x2048x1024, .f32⟩
  | 48 => ⟨S1x1024, .f32⟩
  | 49 => ⟨S1024, .f32⟩
  | 50 => ⟨S16x2048x1024, .f32⟩
  | 51 => ⟨S_, .f32⟩
  | 52 => ⟨S16x2048, .f32⟩
  | 53 => ⟨S16x2048x1, .f32⟩
  | 54 => ⟨S_, .f32⟩
  | 55 => ⟨S16x2048x1, .f32⟩
  | 56 => ⟨S16x2048x1, .f32⟩
  | 57 => ⟨S_, .f32⟩
  | 58 => ⟨S16x2048x1, .f32⟩
  | 59 => ⟨S16x2048x1, .f32⟩
  | 60 => ⟨S16x2048x1, .f32⟩
  | 61 => ⟨S16x2048x1024, .f32⟩
  | 62 => ⟨S16x2048x1024, .f32⟩
  | 63 => ⟨S1x1x1024, .f32⟩
  | 64 => ⟨S16x2048x1024, .f32⟩
  | 65 => ⟨S16x2048x1024, .f32⟩
  | 66 => ⟨S16x2048x1024, .f32⟩
  | _ => ⟨S16x2048x1024, .f32⟩

abbrev hbmTy (i : Nat) : BufTy := match i / 128 with
  | 0 => hbmTy0_0 i
  | 1 => hbmTy0_1 i
  | 2 => hbmTy0_2 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_v0 : Ref sig .tc := ⟨.hbm, 55, rfl⟩
abbrev main_call0_call0_cst : Ref sig .tc := ⟨.hbm, 56, rfl⟩
abbrev main_call0_call0_v0 : Ref sig .tc := ⟨.hbm, 57, rfl⟩
abbrev main_call0_call0_v1 : Ref sig .tc := ⟨.hbm, 58, rfl⟩
abbrev main_call0_call0_v2 : Ref sig .tc := ⟨.hbm, 59, rfl⟩
abbrev main_call0_call0_v3 : Ref sig .tc := ⟨.hbm, 60, rfl⟩
abbrev main_call0_call0_v4 : Ref sig .tc := ⟨.hbm, 61, rfl⟩
abbrev main_call0_call0_v5 : Ref sig .tc := ⟨.hbm, 62, rfl⟩
abbrev main_call0_call0_v6 : Ref sig .tc := ⟨.hbm, 63, rfl⟩
abbrev main_call0_call0_v7 : Ref sig .tc := ⟨.hbm, 64, rfl⟩
abbrev main_call0_call0_v8 : Ref sig .tc := ⟨.hbm, 65, rfl⟩
abbrev main_call0_call0_v9 : Ref sig .tc := ⟨.hbm, 66, rfl⟩
abbrev main_call0_call0_v10 : Ref sig .tc := ⟨.hbm, 67, rfl⟩
abbrev main_call0_call0_v11 : Ref sig .tc := ⟨.hbm, 68, rfl⟩
abbrev main_call0_v1 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_3 : Ref sig .tc := ⟨.hbm, 73, rfl⟩
abbrev main_v42 : Ref sig .tc := ⟨.hbm, 74, rfl⟩
abbrev main_cst_4 : Ref sig .tc := ⟨.hbm, 75, rfl⟩
abbrev main_v43 : Ref sig .tc := ⟨.hbm, 76, rfl⟩
abbrev main_cst_5 : Ref sig .tc := ⟨.hbm, 77, rfl⟩
abbrev main_v44 : Ref sig .tc := ⟨.hbm, 78, rfl⟩
abbrev main_cst_6 : Ref sig .tc := ⟨.hbm, 79, rfl⟩
abbrev main_v45 : Ref sig .tc := ⟨.hbm, 80, rfl⟩
abbrev main_c : Ref sig .tc := ⟨.hbm, 81, rfl⟩
abbrev main_v46_0 : Ref sig .tc := ⟨.hbm, 82, rfl⟩
abbrev main_v46_1 : Ref sig .tc := ⟨.hbm, 83, rfl⟩
abbrev main_v46_2 : Ref sig .tc := ⟨.hbm, 84, rfl⟩
abbrev main_v46_3 : Ref sig .tc := ⟨.hbm, 85, rfl⟩
abbrev main_v46_4 : Ref sig .tc := ⟨.hbm, 86, rfl⟩
abbrev main_v46_5 : Ref sig .tc := ⟨.hbm, 87, rfl⟩
abbrev main_v46_6 : Ref sig .tc := ⟨.hbm, 88, rfl⟩
abbrev main_v46_7 : Ref sig .tc := ⟨.hbm, 89, rfl⟩
abbrev main_v46_8 : Ref sig .tc := ⟨.hbm, 90, rfl⟩
abbrev main_v46_9 : Ref sig .tc := ⟨.hbm, 91, rfl⟩
abbrev main_while0c_c_30 : Ref sig .tc := ⟨.hbm, 92, rfl⟩
abbrev main_while0c_v129 : Ref sig .tc := ⟨.hbm, 93, rfl⟩
abbrev main_while0b_call1_c : Ref sig .tc := ⟨.hbm, 94, rfl⟩
abbrev main_while0b_call1_c_0 : Ref sig .tc := ⟨.hbm, 95, rfl⟩
abbrev main_while0b_call1_c_1 : Ref sig .tc := ⟨.hbm, 96, rfl⟩
abbrev main_while0b_call1_c_2 : Ref sig .tc := ⟨.hbm, 97, rfl⟩
abbrev main_while0b_call1_v0 : Ref sig .tc := ⟨.hbm, 98, rfl⟩
abbrev main_while0b_v129 : Ref sig .tc := ⟨.hbm, 99, rfl⟩
abbrev main_while0b_call2_c : Ref sig .tc := ⟨.hbm, 100, rfl⟩
abbrev main_while0b_call2_c_0 : Ref sig .tc := ⟨.hbm, 101, rfl⟩
abbrev main_while0b_call2_c_1 : Ref sig .tc := ⟨.hbm, 102, rfl⟩
abbrev main_while0b_call2_c_2 : Ref sig .tc := ⟨.hbm, 103, rfl⟩
abbrev main_while0b_call2_v0 : Ref sig .tc := ⟨.hbm, 104, rfl⟩
abbrev main_while0b_v130 : Ref sig .tc := ⟨.hbm, 105, rfl⟩
abbrev main_while0b_call3_c : Ref sig .tc := ⟨.hbm, 106, rfl⟩
abbrev main_while0b_call3_c_0 : Ref sig .tc := ⟨.hbm, 107, rfl⟩
abbrev main_while0b_call3_c_1 : Ref sig .tc := ⟨.hbm, 108, rfl⟩
abbrev main_while0b_call3_c_2 : Ref sig .tc := ⟨.hbm, 109, rfl⟩
abbrev main_while0b_call3_v0 : Ref sig .tc := ⟨.hbm, 110, rfl⟩
abbrev main_while0b_v131 : Ref sig .tc := ⟨.hbm, 111, rfl⟩
abbrev main_while0b_call4_c : Ref sig .tc := ⟨.hbm, 112, rfl⟩
abbrev main_while0b_call4_c_0 : Ref sig .tc := ⟨.hbm, 113, rfl⟩
abbrev main_while0b_call4_c_1 : Ref sig .tc := ⟨.hbm, 114, rfl⟩
abbrev main_while0b_call4_v0 : Ref sig .tc := ⟨.hbm, 115, rfl⟩
abbrev main_while0b_v132 : Ref sig .tc := ⟨.hbm, 116, rfl⟩
abbrev main_while0b_call5_c : Ref sig .tc := ⟨.hbm, 117, rfl⟩
abbrev main_while0b_call5_c_0 : Ref sig .tc := ⟨.hbm, 118, rfl⟩
abbrev main_while0b_call5_c_1 : Ref sig .tc := ⟨.hbm, 119, rfl⟩
abbrev main_while0b_call5_v0 : Ref sig .tc := ⟨.hbm, 120, rfl⟩
abbrev main_while0b_v133 : Ref sig .tc := ⟨.hbm, 121, rfl⟩
abbrev main_while0b_c_30 : Ref sig .tc := ⟨.hbm, 122, rfl⟩
abbrev main_while0b_v134 : Ref sig .tc := ⟨.hbm, 123, rfl⟩
abbrev main_while0b_call6_v0 : Ref sig .tc := ⟨.hbm, 124, rfl⟩
abbrev main_while0b_call6_c : Ref sig .tc := ⟨.hbm, 125, rfl⟩
abbrev main_while0b_call6_v1 : Ref sig .tc := ⟨.hbm, 126, rfl⟩
abbrev main_while0b_call6_v2 : Ref sig .tc := ⟨.hbm, 127, rfl⟩
abbrev main_while0b_call6_v3 : Ref sig .tc := ⟨.hbm, 128, rfl⟩
abbrev main_while0b_call6_v4 : Ref sig .tc := ⟨.hbm, 129, rfl⟩
abbrev main_while0b_call6_c_0 : Ref sig .tc := ⟨.hbm, 130, rfl⟩
abbrev main_while0b_call6_v5 : Ref sig .tc := ⟨.hbm, 131, rfl⟩
abbrev main_while0b_v135 : Ref sig .tc := ⟨.hbm, 132, rfl⟩
abbrev main_while0b_call7_call0_cst : Ref sig .tc := ⟨.hbm, 133, rfl⟩
abbrev main_while0b_call7_call0_v0 : Ref sig .tc := ⟨.hbm, 134, rfl⟩
abbrev main_while0b_v136 : Ref sig .tc := ⟨.hbm, 135, rfl⟩
abbrev main_while0b_v137 : Ref sig .tc := ⟨.hbm, 136, rfl⟩
abbrev main_while0b_v138 : Ref sig .tc := ⟨.hbm, 137, rfl⟩
abbrev main_while0b_v139 : Ref sig .tc := ⟨.hbm, 138, rfl⟩
abbrev main_while0b_v140 : Ref sig .tc := ⟨.hbm, 139, rfl⟩
abbrev main_while0b_v141 : Ref sig .tc := ⟨.hbm, 140, rfl⟩
abbrev main_while0b_v142 : Ref sig .tc := ⟨.hbm, 141, rfl⟩
abbrev main_while0b_v143 : Ref sig .tc := ⟨.hbm, 142, rfl⟩
abbrev main_while0b_v144 : Ref sig .tc := ⟨.hbm, 143, rfl⟩
abbrev main_while0b_cst_31 : Ref sig .tc := ⟨.hbm, 144, rfl⟩
abbrev main_while0b_call8_v0 : Ref sig .tc := ⟨.hbm, 145, rfl⟩
abbrev main_while0b_call8_v1 : Ref sig .tc := ⟨.hbm, 146, rfl⟩
abbrev main_while0b_call8_v2 : Ref sig .tc := ⟨.hbm, 147, rfl⟩
abbrev main_while0b_v145 : Ref sig .tc := ⟨.hbm, 148, rfl⟩
abbrev main_while0b_v146 : Ref sig .tc := ⟨.hbm, 149, rfl⟩
abbrev main_while0b_v147 : Ref sig .tc := ⟨.hbm, 150, rfl⟩
abbrev main_while0b_v148 : Ref sig .tc := ⟨.hbm, 151, rfl⟩
abbrev main_while0b_cst_32 : Ref sig .tc := ⟨.hbm, 152, rfl⟩
abbrev main_while0b_v149 : Ref sig .tc := ⟨.hbm, 153, rfl⟩
abbrev main_while0b_v150 : Ref sig .tc := ⟨.hbm, 154, rfl⟩
abbrev main_while0b_v151 : Ref sig .tc := ⟨.hbm, 155, rfl⟩
abbrev main_while0b_v152 : Ref sig .tc := ⟨.hbm, 156, rfl⟩
abbrev main_while0b_v153 : Ref sig .tc := ⟨.hbm, 157, rfl⟩
abbrev main_while0b_v154 : Ref sig .tc := ⟨.hbm, 158, rfl⟩
abbrev main_while0b_v155 : Ref sig .tc := ⟨.hbm, 159, rfl⟩
abbrev main_while0b_v156 : Ref sig .tc := ⟨.hbm, 160, rfl⟩
abbrev main_while0b_v157 : Ref sig .tc := ⟨.hbm, 161, rfl⟩
abbrev main_while0b_v158 : Ref sig .tc := ⟨.hbm, 162, rfl⟩
abbrev main_while0b_v159 : Ref sig .tc := ⟨.hbm, 163, rfl⟩
abbrev main_while0b_v160 : Ref sig .tc := ⟨.hbm, 164, rfl⟩
abbrev main_while0b_v161 : Ref sig .tc := ⟨.hbm, 165, rfl⟩
abbrev main_while0b_v162 : Ref sig .tc := ⟨.hbm, 166, rfl⟩
abbrev main_while0b_v163 : Ref sig .tc := ⟨.hbm, 167, rfl⟩
abbrev main_while0b_v164 : Ref sig .tc := ⟨.hbm, 168, rfl⟩
abbrev main_while0b_cst_33 : Ref sig .tc := ⟨.hbm, 169, rfl⟩
abbrev main_while0b_v165 : Ref sig .tc := ⟨.hbm, 170, rfl⟩
abbrev main_while0b_v166 : Ref sig .tc := ⟨.hbm, 171, rfl⟩
abbrev main_while0b_v167 : Ref sig .tc := ⟨.hbm, 172, rfl⟩
abbrev main_while0b_v168 : Ref sig .tc := ⟨.hbm, 173, rfl⟩
abbrev main_while0b_v169 : Ref sig .tc := ⟨.hbm, 174, rfl⟩
abbrev main_while0b_v170 : Ref sig .tc := ⟨.hbm, 175, rfl⟩
abbrev main_while0b_v171 : Ref sig .tc := ⟨.hbm, 176, rfl⟩
abbrev main_while0b_v172 : Ref sig .tc := ⟨.hbm, 177, rfl⟩
abbrev main_while0b_v173 : Ref sig .tc := ⟨.hbm, 178, rfl⟩
abbrev main_while0b_v174 : Ref sig .tc := ⟨.hbm, 179, rfl⟩
abbrev main_while0b_v175 : Ref sig .tc := ⟨.hbm, 180, rfl⟩
abbrev main_while0b_v176 : Ref sig .tc := ⟨.hbm, 181, rfl⟩
abbrev main_while0b_v177 : Ref sig .tc := ⟨.hbm, 182, rfl⟩
abbrev main_while0b_v178 : Ref sig .tc := ⟨.hbm, 183, rfl⟩
abbrev main_while0b_v179 : Ref sig .tc := ⟨.hbm, 184, rfl⟩
abbrev main_while0b_v180 : Ref sig .tc := ⟨.hbm, 185, rfl⟩
abbrev main_while0b_v181 : Ref sig .tc := ⟨.hbm, 186, rfl⟩
abbrev main_while0b_v182 : Ref sig .tc := ⟨.hbm, 187, rfl⟩
abbrev main_while0b_cst_34 : Ref sig .tc := ⟨.hbm, 188, rfl⟩
abbrev main_while0b_v183 : Ref sig .tc := ⟨.hbm, 189, rfl⟩
abbrev main_while0b_v184 : Ref sig .tc := ⟨.hbm, 190, rfl⟩
abbrev main_while0b_v185 : Ref sig .tc := ⟨.hbm, 191, rfl⟩
abbrev main_while0b_v186 : Ref sig .tc := ⟨.hbm, 192, rfl⟩
abbrev main_while0b_v187 : Ref sig .tc := ⟨.hbm, 193, rfl⟩
abbrev main_while0b_v188 : Ref sig .tc := ⟨.hbm, 194, rfl⟩
abbrev main_while0b_v189 : Ref sig .tc := ⟨.hbm, 195, rfl⟩
abbrev main_while0b_v190 : Ref sig .tc := ⟨.hbm, 196, rfl⟩
abbrev main_while0b_v191 : Ref sig .tc := ⟨.hbm, 197, rfl⟩
abbrev main_while0b_v192 : Ref sig .tc := ⟨.hbm, 198, rfl⟩
abbrev main_while0b_v193 : Ref sig .tc := ⟨.hbm, 199, rfl⟩
abbrev main_while0b_v194 : Ref sig .tc := ⟨.hbm, 200, rfl⟩
abbrev main_while0b_v195 : Ref sig .tc := ⟨.hbm, 201, rfl⟩
abbrev main_while0b_v196 : Ref sig .tc := ⟨.hbm, 202, rfl⟩
abbrev main_while0b_v197 : Ref sig .tc := ⟨.hbm, 203, rfl⟩
abbrev main_while0b_v198 : Ref sig .tc := ⟨.hbm, 204, rfl⟩
abbrev main_while0b_v199 : Ref sig .tc := ⟨.hbm, 205, rfl⟩
abbrev main_while0b_v200 : Ref sig .tc := ⟨.hbm, 206, rfl⟩
abbrev main_while0b_v201 : Ref sig .tc := ⟨.hbm, 207, rfl⟩
abbrev main_while0b_v202 : Ref sig .tc := ⟨.hbm, 208, rfl⟩
abbrev main_while0b_v203 : Ref sig .tc := ⟨.hbm, 209, rfl⟩
abbrev main_while0b_v204 : Ref sig .tc := ⟨.hbm, 210, rfl⟩
abbrev main_while0b_call9_v0 : Ref sig .tc := ⟨.hbm, 211, rfl⟩
abbrev main_while0b_call9_c : Ref sig .tc := ⟨.hbm, 212, rfl⟩
abbrev main_while0b_call9_c_0 : Ref sig .tc := ⟨.hbm, 213, rfl⟩
abbrev main_while0b_call9_c_1 : Ref sig .tc := ⟨.hbm, 214, rfl⟩
abbrev main_while0b_call9_c_2 : Ref sig .tc := ⟨.hbm, 215, rfl⟩
abbrev main_while0b_v205 : Ref sig .tc := ⟨.hbm, 216, rfl⟩
abbrev main_while0b_c_35 : Ref sig .tc := ⟨.hbm, 217, rfl⟩
abbrev main_while0b_v206 : Ref sig .tc := ⟨.hbm, 218, rfl⟩
abbrev main_v47 : Ref sig .tc := ⟨.hbm, 219, rfl⟩
abbrev main_v48 : Ref sig .tc := ⟨.hbm, 220, rfl⟩
abbrev main_v49 : Ref sig .tc := ⟨.hbm, 221, rfl⟩
abbrev main_cst_7 : Ref sig .tc := ⟨.hbm, 222, rfl⟩
abbrev main_v50 : Ref sig .tc := ⟨.hbm, 223, rfl⟩
abbrev main_v51 : Ref sig .tc := ⟨.hbm, 224, rfl⟩
abbrev main_cst_8 : Ref sig .tc := ⟨.hbm, 225, rfl⟩
abbrev main_v52 : Ref sig .tc := ⟨.hbm, 226, rfl⟩
abbrev main_v53 : Ref sig .tc := ⟨.hbm, 227, rfl⟩
abbrev main_cst_9 : Ref sig .tc := ⟨.hbm, 228, rfl⟩
abbrev main_v54 : Ref sig .tc := ⟨.hbm, 229, rfl⟩
abbrev main_v55 : Ref sig .tc := ⟨.hbm, 230, rfl⟩
abbrev main_v56 : Ref sig .tc := ⟨.hbm, 231, rfl⟩
abbrev main_v57 : Ref sig .tc := ⟨.hbm, 232, rfl⟩
abbrev main_v58 : Ref sig .tc := ⟨.hbm, 233, rfl⟩
abbrev main_v59 : Ref sig .tc := ⟨.hbm, 234, rfl⟩
abbrev main_v60 : Ref sig .tc := ⟨.hbm, 235, rfl⟩
abbrev main_v61 : Ref sig .tc := ⟨.hbm, 236, rfl⟩
abbrev main_v62 : Ref sig .tc := ⟨.hbm, 237, rfl⟩
abbrev main_v63 : Ref sig .tc := ⟨.hbm, 238, rfl⟩
abbrev main_v64 : Ref sig .tc := ⟨.hbm, 239, rfl⟩
abbrev main_cst_10 : Ref sig .tc := ⟨.hbm, 240, rfl⟩
abbrev main_v65 : Ref sig .tc := ⟨.hbm, 241, rfl⟩
abbrev main_v66 : Ref sig .tc := ⟨.hbm, 242, rfl⟩
abbrev main_cst_11 : Ref sig .tc := ⟨.hbm, 243, rfl⟩
abbrev main_v67 : Ref sig .tc := ⟨.hbm, 244, rfl⟩
abbrev main_v68 : Ref sig .tc := ⟨.hbm, 245, rfl⟩
abbrev main_v69 : Ref sig .tc := ⟨.hbm, 246, rfl⟩
abbrev main_v70 : Ref sig .tc := ⟨.hbm, 247, rfl⟩
abbrev main_v71 : Ref sig .tc := ⟨.hbm, 248, rfl⟩
abbrev main_v72 : Ref sig .tc := ⟨.hbm, 249, rfl⟩
abbrev main_v73 : Ref sig .tc := ⟨.hbm, 250, rfl⟩
abbrev main_cst_12 : Ref sig .tc := ⟨.hbm, 251, rfl⟩
abbrev main_v74 : Ref sig .tc := ⟨.hbm, 252, rfl⟩
abbrev main_v75 : Ref sig .tc := ⟨.hbm, 253, rfl⟩
abbrev main_cst_13 : Ref sig .tc := ⟨.hbm, 254, rfl⟩
abbrev main_v76 : Ref sig .tc := ⟨.hbm, 255, rfl⟩
abbrev main_v77 : Ref sig .tc := ⟨.hbm, 256, rfl⟩
abbrev main_cst_14 : Ref sig .tc := ⟨.hbm, 257, rfl⟩
abbrev main_v78 : Ref sig .tc := ⟨.hbm, 258, rfl⟩
abbrev main_v79 : Ref sig .tc := ⟨.hbm, 259, rfl⟩
abbrev main_v80 : Ref sig .tc := ⟨.hbm, 260, rfl⟩
abbrev main_v81 : Ref sig .tc := ⟨.hbm, 261, rfl⟩
abbrev main_v82 : Ref sig .tc := ⟨.hbm, 262, rfl⟩
abbrev main_v83 : Ref sig .tc := ⟨.hbm, 263, rfl⟩
abbrev main_v84 : Ref sig .tc := ⟨.hbm, 264, rfl⟩
abbrev main_v85 : Ref sig .tc := ⟨.hbm, 265, rfl⟩
abbrev main_v86 : Ref sig .tc := ⟨.hbm, 266, rfl⟩
abbrev main_v87 : Ref sig .tc := ⟨.hbm, 267, rfl⟩
abbrev main_v88 : Ref sig .tc := ⟨.hbm, 268, rfl⟩
abbrev main_v89 : Ref sig .tc := ⟨.hbm, 269, rfl⟩
abbrev main_cst_15 : Ref sig .tc := ⟨.hbm, 270, rfl⟩
abbrev main_v90 : Ref sig .tc := ⟨.hbm, 271, rfl⟩
abbrev main_v91 : Ref sig .tc := ⟨.hbm, 272, rfl⟩
abbrev main_cst_16 : Ref sig .tc := ⟨.hbm, 273, rfl⟩
abbrev main_v92 : Ref sig .tc := ⟨.hbm, 274, rfl⟩
abbrev main_v93 : Ref sig .tc := ⟨.hbm, 275, rfl⟩
abbrev main_cst_17 : Ref sig .tc := ⟨.hbm, 276, rfl⟩
abbrev main_v94 : Ref sig .tc := ⟨.hbm, 277, rfl⟩
abbrev main_v95 : Ref sig .tc := ⟨.hbm, 278, rfl⟩
abbrev main_v96 : Ref sig .tc := ⟨.hbm, 279, rfl⟩
abbrev main_v97 : Ref sig .tc := ⟨.hbm, 280, rfl⟩
abbrev main_v98 : Ref sig .tc := ⟨.hbm, 281, rfl⟩
abbrev main_v99 : Ref sig .tc := ⟨.hbm, 282, rfl⟩
abbrev main_v100 : Ref sig .tc := ⟨.hbm, 283, rfl⟩
abbrev main_v101 : Ref sig .tc := ⟨.hbm, 284, rfl⟩
abbrev main_v102 : Ref sig .tc := ⟨.hbm, 285, rfl⟩
abbrev main_v103 : Ref sig .tc := ⟨.hbm, 286, rfl⟩
abbrev main_v104 : Ref sig .tc := ⟨.hbm, 287, rfl⟩
abbrev main_v105 : Ref sig .tc := ⟨.hbm, 288, rfl⟩
abbrev main_v106 : Ref sig .tc := ⟨.hbm, 289, rfl⟩
abbrev main_v107 : Ref sig .tc := ⟨.hbm, 290, rfl⟩
abbrev main_v108 : Ref sig .tc := ⟨.hbm, 291, rfl⟩
abbrev main_v109 : Ref sig .tc := ⟨.hbm, 292, rfl⟩
abbrev main_call10_v0 : Ref sig .tc := ⟨.hbm, 293, rfl⟩
abbrev main_call10_v1 : Ref sig .tc := ⟨.hbm, 294, rfl⟩
abbrev main_call10_cst : Ref sig .tc := ⟨.hbm, 295, rfl⟩
abbrev main_call10_v2 : Ref sig .tc := ⟨.hbm, 296, rfl⟩
abbrev main_call10_v3 : Ref sig .tc := ⟨.hbm, 297, rfl⟩
abbrev main_call10_cst_0 : Ref sig .tc := ⟨.hbm, 298, rfl⟩
abbrev main_call10_v4 : Ref sig .tc := ⟨.hbm, 299, rfl⟩
abbrev main_call10_v5 : Ref sig .tc := ⟨.hbm, 300, rfl⟩
abbrev main_v110 : Ref sig .tc := ⟨.hbm, 301, rfl⟩
abbrev main_v111 : Ref sig .tc := ⟨.hbm, 302, rfl⟩
abbrev main_v112 : Ref sig .tc := ⟨.hbm, 303, rfl⟩
abbrev main_v113 : Ref sig .tc := ⟨.hbm, 304, rfl⟩
abbrev main_v114 : Ref sig .tc := ⟨.hbm, 305, rfl⟩
abbrev main_v115 : Ref sig .tc := ⟨.hbm, 306, rfl⟩
abbrev main_cst_18 : Ref sig .tc := ⟨.hbm, 307, rfl⟩
abbrev main_v116 : Ref sig .tc := ⟨.hbm, 308, rfl⟩
abbrev main_v117 : Ref sig .tc := ⟨.hbm, 309, rfl⟩
abbrev main_cst_19 : Ref sig .tc := ⟨.hbm, 310, rfl⟩
abbrev main_v118 : Ref sig .tc := ⟨.hbm, 311, rfl⟩
abbrev main_v119 : Ref sig .tc := ⟨.hbm, 312, rfl⟩
abbrev main_cst_20 : Ref sig .tc := ⟨.hbm, 313, rfl⟩
abbrev main_v120 : Ref sig .tc := ⟨.hbm, 314, rfl⟩
abbrev main_v121 : Ref sig .tc := ⟨.hbm, 315, rfl⟩
abbrev main_v122 : Ref sig .tc := ⟨.hbm, 316, rfl⟩
abbrev main_v123 : Ref sig .tc := ⟨.hbm, 317, rfl⟩
abbrev main_v124 : Ref sig .tc := ⟨.hbm, 318, rfl⟩
abbrev main_v125 : Ref sig .tc := ⟨.hbm, 319, rfl⟩
abbrev main_v126 : Ref sig .tc := ⟨.hbm, 320, rfl⟩
abbrev main_v127 : Ref sig .tc := ⟨.hbm, 321, rfl⟩
abbrev main_v128 : Ref sig .tc := ⟨.hbm, 322, rfl⟩

abbrev nD : Nat := 1
abbrev τ : Topo := Topo.v7x

variable {F : FTy → Type} [FloatOps F]

abbrev main_while0_count : Scf.Loop 32 := ⟨0#32, 32#32, 1#32⟩
-- ==== Proof.RefFrame.lean ====
/-
  The reference program leaves its arguments as they were: no operation before, in or after its loop writes one.
-/
module

public import proofs.«01_k».proof.Proof.Gen.ReferenceIdeal.Run
public import Idealize.ShloMosaic.Lib.Quiescent

@[expose] public section

set_option maxRecDepth 16384

noncomputable section

namespace Cert.RefFrame

open Idealize.ShloMosaic Idealize.ShloMosaic.TcCoe Idealize.ShloMosaic.StableHlo
open Idealize.SL.Sem Cert.ReferenceIdeal Cert.ReferenceIdeal.Gen Cert.ReferenceIdeal.Value

variable {F : FTy → Type} [FloatOps F]
variable (m : (ℓ : Loc nD τ sig) → Buf (Elt F) ℓ)

/-- The loop body leaves a buffer none of its operations writes. -/
theorem body_kept (V : Valuation τ sig (Elt F)) {r : Ref sig .tc}
    (h : r ∉ while0Ops0_W ++ while0Ops0_1_W ++ while0Ops0_2_W ++ while0Ops0_3_W ++ while0Ops0_4_W ++ while0Ops0_5_W
      ++ while0Ops0_6_W ++ while0Ops0_7_W ++ while0Ops0_8_W ++ while0Ops0_9_W ++ while0Ops0_10_W ++ while0Ops0_11_W ++ while0Ops0_12_W) :
    afterL bodyI V (Proc.devRef .tc r) = V (Proc.devRef .tc r) := by
  simp only [List.mem_append, not_or] at h
  obtain ⟨⟨⟨⟨⟨⟨⟨⟨⟨⟨⟨⟨h0, h1⟩, h2⟩, h3⟩, h4⟩, h5⟩, h6⟩, h7⟩, h8⟩, h9⟩, h10⟩, h11⟩, h12⟩ := h
  simp only [afterL_cons, afterL_nil]
  rw [after_of_writes_sub _ _ while0Ops0_12_writes h12, after_of_writes_sub _ _ while0Ops0_11_writes h11,
    after_of_writes_sub _ _ while0Ops0_10_writes h10, after_of_writes_sub _ _ while0Ops0_9_writes h9,
    after_of_writes_sub _ _ while0Ops0_8_writes h8, after_of_writes_sub _ _ while0Ops0_7_writes h7,
    after_of_writes_sub _ _ while0Ops0_6_writes h6, after_of_writes_sub _ _ while0Ops0_5_writes h5,
    after_of_writes_sub _ _ while0Ops0_4_writes h4, after_of_writes_sub _ _ while0Ops0_3_writes h3,
    after_of_writes_sub _ _ while0Ops0_2_writes h2, after_of_writes_sub _ _ while0Ops0_1_writes h1,
    after_of_writes_sub _ _ while0Ops0_writes h0]

/-- Before every trip a buffer the loop does not write holds what it held when the loop began. -/
theorem atK_kept (c : Dev nD) {r : Ref sig .tc}
    (h : r ∉ while0Ops0_W ++ while0Ops0_1_W ++ while0Ops0_2_W ++ while0Ops0_3_W ++ while0Ops0_4_W ++ while0Ops0_5_W
      ++ while0Ops0_6_W ++ while0Ops0_7_W ++ while0Ops0_8_W ++ while0Ops0_9_W ++ while0Ops0_10_W ++ while0Ops0_11_W ++ while0Ops0_12_W)
    (hc : r ∉ condOps_W) : ∀ k, atK m k c (Proc.devRef .tc r) = entryContents preI m c (Proc.devRef .tc r)
  | 0 => rfl
  | k + 1 => by
    rw [show atK m (k + 1) c = afterL bodyI (after condOps (atK m k c)) from rfl, body_kept _ h,
      after_of_writes_sub _ _ condOps_writes hc]
    exact atK_kept c h hc k

/-- What @main's stretches before the loop leave alone holds its launch contents when the loop begins. -/
theorem entry_kept (c : Dev nD) {r : Ref sig .tc} (h : r ∉ hostOps0_W ++ hostOps0_1_W ++ hostOps0_2_W) :
    entryContents preI m c (Proc.devRef .tc r) = m (c, Proc.devRef .tc r) := by
  simp only [List.mem_append, not_or] at h
  obtain ⟨⟨h0, h1⟩, h2⟩ := h
  simp only [entryContents, afterL_cons, afterL_nil]
  rw [after_of_writes_sub _ _ hostOps0_2_writes h2, after_of_writes_sub _ _ hostOps0_1_writes h1,
    after_of_writes_sub _ _ hostOps0_writes h0]

/-- The buffers the first stretch after the loop writes, in order. -/
abbrev post3_W : List (Ref sig .tc) := [main_v47, main_v48, main_v49, main_cst_7, main_v50, main_v51, main_cst_8, main_v52, main_v53, main_cst_9, main_v54, main_v55, main_v56, main_v57, main_v58, main_v59, main_v60, main_v61, main_v62, main_v63, main_v64, main_cst_10, main_v65, main_v66, main_cst_11, main_v67, main_v68, main_v69, main_v70, main_v71, main_v72, main_v73, main_cst_12, main_v74, main_v75, main_cst_13, main_v76, main_v77, main_cst_14, main_v78, main_v79, main_v80, main_v81, main_v82, main_v83, main_v84, main_v85, main_v86, main_v87, main_v88, main_v89, main_cst_15, main_v90, main_v91, main_cst_16, main_v92, main_v93, main_cst_17, main_v94, main_v95, main_v96, main_v97, main_v98, main_v99, main_v100, main_v101, main_v102, main_v103, main_v104, main_v105, main_v106, main_v107, main_v108, main_v109]
/-- That list is right. -/
theorem post3_writes : (hostOps0_3 : List (HloOp τ sig (Elt F))).Forall fun op => op.writes ⊆ (post3_W.map (Proc.devRef (τ := τ) .tc)).toFinset :=
  forall_writes_sub_of_map rfl

/-- The buffers the second stretch after the loop writes, in order. -/
abbrev post4_W : List (Ref sig .tc) := [main_call10_v0, main_call10_v1, main_call10_cst, main_call10_v2, main_call10_v3, main_call10_cst_0, main_call10_v4, main_call10_v5, main_v110]
/-- That list is right. -/
theorem post4_writes : (hostOps0_4 : List (HloOp τ sig (Elt F))).Forall fun op => op.writes ⊆ (post4_W.map (Proc.devRef (τ := τ) .tc)).toFinset :=
  forall_writes_sub_of_map rfl

/-- The buffers the third stretch after the loop writes, in order. -/
abbrev post5_W : List (Ref sig .tc) := [main_v111, main_v112, main_v113, main_v114, main_v115, main_cst_18, main_v116, main_v117, main_cst_19, main_v118, main_v119, main_cst_20, main_v120, main_v121, main_v122, main_v123, main_v124, main_v125, main_v126, main_v127, main_v128]
/-- That list is right. -/
theorem post5_writes : (hostOps0_5 : List (HloOp τ sig (Elt F))).Forall fun op => op.writes ⊆ (post5_W.map (Proc.devRef (τ := τ) .tc)).toFinset :=
  forall_writes_sub_of_map rfl

/-- Every buffer no operation of the program writes holds at the end what it held at the start. -/
theorem final_kept (c : Dev nD) {r : Ref sig .tc}
    (h : r ∉ while0Ops0_W ++ while0Ops0_1_W ++ while0Ops0_2_W ++ while0Ops0_3_W ++ while0Ops0_4_W ++ while0Ops0_5_W
      ++ while0Ops0_6_W ++ while0Ops0_7_W ++ while0Ops0_8_W ++ while0Ops0_9_W ++ while0Ops0_10_W ++ while0Ops0_11_W ++ while0Ops0_12_W)
    (hc : r ∉ condOps_W) (hp : r ∉ hostOps0_W ++ hostOps0_1_W ++ hostOps0_2_W) (h3 : r ∉ post3_W) (h4 : r ∉ post4_W) (h5 : r ∉ post5_W) :
    finalContents condOps preI bodyI postI 32 m c (Proc.devRef .tc r) = m (c, Proc.devRef .tc r) := by
  simp only [finalContents, afterL_cons (hostOps0_3), afterL_cons (hostOps0_4), afterL_cons (hostOps0_5), afterL_nil]
  rw [after_of_writes_sub _ _ post5_writes h5, after_of_writes_sub _ _ post4_writes h4, after_of_writes_sub _ _ post3_writes h3,
    after_of_writes_sub _ _ condOps_writes hc]
  exact (atK_kept m c h hc 32).trans (entry_kept m c hp)

/-- No argument is written before, in or after the loop. -/
theorem args_unwritten : ∀ r ∈ ([main_arg0, main_arg1, main_arg2, main_arg3, main_arg4, main_arg5, main_arg6, main_arg7, main_arg8, main_arg9, main_arg10, main_arg11] : List (Ref sig .tc)),
    (r ∉ while0Ops0_W ++ while0Ops0_1_W ++ while0Ops0_2_W ++ while0Ops0_3_W ++ while0Ops0_4_W ++ while0Ops0_5_W
      ++ while0Ops0_6_W ++ while0Ops0_7_W ++ while0Ops0_8_W ++ while0Ops0_9_W ++ while0Ops0_10_W ++ while0Ops0_11_W ++ while0Ops0_12_W)
    ∧ r ∉ condOps_W ∧ r ∉ hostOps0_W ++ hostOps0_1_W ++ hostOps0_2_W ∧ r ∉ post3_W ∧ r ∉ post4_W ∧ r ∉ post5_W := by
  decide +kernel

/-- Every argument holds at the end of the reference what it held at the start. -/
theorem arg_kept (c : Dev nD) {r : Ref sig .tc} (hr : r ∈ ([main_arg0, main_arg1, main_arg2, main_arg3, main_arg4, main_arg5, main_arg6, main_arg7, main_arg8, main_arg9, main_arg10, main_arg11] : List (Ref sig .tc))) :
    finalContents condOps preI bodyI postI 32 m c (Proc.devRef .tc r) = m (c, Proc.devRef .tc r) :=
  have ⟨h, hc, hp, h3, h4, h5⟩ := args_unwritten r hr
  final_kept m c h hc hp h3 h4 h5

end Cert.RefFrame

end
-- ==== Proof.RefOps.lean ====
/- Three operations of the reference's loop read at an index: the slice of the chunk a trip works on, the running sum along
   the chunk, the update of the chunk's outputs. -/
module

public import proofs.«01_k».proof.Proof.Gen.ReferenceIdeal
public import Idealize.ShloMosaic.Lib.Pointwise

@[expose] public section

set_option maxRecDepth 16384

noncomputable section

namespace Cert.RefOps

open Idealize.ShloMosaic Idealize.ShloMosaic.TcCoe Cert.ReferenceIdeal Cert.ReferenceIdeal.Gen

/-- A slice of a stack at a start inside it, at an index. -/
theorem dslice {s t : Shape} {α : Type} (x : s.Idx → α) (start : Fin s.rank → Int) (h : s.Slices (fun _ => 0) t) (off : Fin s.rank → ℕ)
    (hs : ∀ a, start a = off a) (hle : ∀ a, off a + t.size (a.cast h.1.symm) ≤ s.size a) (j : t.Idx) (i : s.Idx)
    (hi : ∀ a, (i a).val = off a + (j (a.cast h.1.symm)).val) : Host.dynamicSlice t x start h j = x i := by
  rw [Host.dynamicSlice_apply]
  congr 1
  funext a
  apply Fin.ext
  show Host.clampedStart s t h.1 start a + (j (a.cast h.1.symm)).val = (i a).val
  rw [Host.clampedStart_of_le h.1 start a (off a) (hs a) (hle a), hi]

/-- An update of a stack, read inside the window. -/
theorem dupdate_in {s u : Shape} {α : Type} (x : s.Idx → α) (upd : u.Idx → α) (start : Fin s.rank → Int) (h : s.Slices (fun _ => 0) u)
    (off : Fin s.rank → ℕ) (hs : ∀ a, start a = off a) (hle : ∀ a, off a + u.size (a.cast h.1.symm) ≤ s.size a) (i : s.Idx) (j : u.Idx)
    (hi : ∀ a, (i a).val = off a + (j (a.cast h.1.symm)).val) : Host.dynamicUpdateSlice x upd start h i = upd j := by
  rw [Host.dynamicUpdateSlice_apply]
  have hc : ∀ a, Host.clampedStart s u h.1 start a = off a := fun a => Host.clampedStart_of_le h.1 start a (off a) (hs a) (hle a)
  rw [dif_pos fun a => by
    rw [hc, hi]
    have := (j (a.cast h.1.symm)).isLt
    omega]
  congr 1
  funext b
  apply Fin.ext
  show (i (b.cast h.1)).val - Host.clampedStart s u h.1 start (b.cast h.1) = (j b).val
  rw [hc, hi]
  have : (b.cast h.1).cast h.1.symm = b := rfl
  rw [this]
  omega

/-- An update of a stack, read beside the window. -/
theorem dupdate_out {s u : Shape} {α : Type} (x : s.Idx → α) (upd : u.Idx → α) (start : Fin s.rank → Int) (h : s.Slices (fun _ => 0) u)
    (off : Fin s.rank → ℕ) (hs : ∀ a, start a = off a) (hle : ∀ a, off a + u.size (a.cast h.1.symm) ≤ s.size a) (i : s.Idx) (a : Fin s.rank)
    (hi : (i a).val < off a ∨ off a + u.size (a.cast h.1.symm) ≤ (i a).val) : Host.dynamicUpdateSlice x upd start h i = x i := by
  rw [Host.dynamicUpdateSlice_apply]
  rw [dif_neg fun hin => by
    have := hin a
    rw [Host.clampedStart_of_le h.1 start a (off a) (hs a) (hle a)] at this
    omega]

/-- The starts of a trip's slice. -/
theorem toInt_small (k : ℕ) (hk : k < 32) : (BitVec.ofNat 32 k).toInt = (k : Int) := by
  rw [BitVec.toInt_ofNat', Int.bmod_def]; omega

/-- Adding up a list from a start is the start and the list's sum. -/
theorem foldl_add_sum {ι : Type} (l : List ι) (g : ι → EReal) (v : EReal) : l.foldl (fun r n => r + g n) v = v + (l.map g).sum := by
  induction l generalizing v with
  | nil => simp
  | cons a l ih => rw [List.foldl_cons, ih, List.map_cons, List.sum_cons, add_assoc]

/-- A window of 64 that ends at `j`. -/
theorem sum_window (j : ℕ) (hj : j < 64) (X : ℕ → EReal) :
    ∑ n : Fin 64, (if 63 ≤ j + (n : ℕ) then X (j + (n : ℕ) - 63) else 0) = ∑ s ∈ Finset.range (j + 1), X s := by
  rw [Fin.sum_univ_eq_sum_range (fun n => if 63 ≤ j + n then X (j + n - 63) else 0) 64, ← Finset.sum_filter]
  refine Finset.sum_nbij' (fun n => j + n - 63) (fun s => s + 63 - j) ?_ ?_ ?_ ?_ ?_
  · intro n hn; simp only [Finset.mem_filter, Finset.mem_range] at hn ⊢; omega
  · intro n hn; simp only [Finset.mem_filter, Finset.mem_range] at hn ⊢; omega
  · intro n hn; simp only [Finset.mem_filter, Finset.mem_range] at hn ⊢; omega
  · intro n hn; simp only [Finset.mem_filter, Finset.mem_range] at hn ⊢; omega
  · intro n hn; rfl

/-- The running sum along the chunk. -/
theorem cumsum (x : FVec Ideal S16x8x64 .f32) (init : FVec Ideal S_ .f32) (hinit : ∀ i, init i = (0 : EReal)) (b : Fin 16) (h : Fin 8) (j : Fin 64)
    (X : ℕ → EReal) (hx : ∀ s : Fin 64, x (ix3 b h s) = X s) :
    Host.reduceWindowAdd (F := Ideal) ![1, 1, 64] ![1, 1, 1] ![0, 0, 63] ![0, 0, 0] x init
      reduceWindows_S16x8x64_S16x8x64_w1s1p0_0_w1s1p0_0_w64s1p63_0 h_S_ (ix3 b h j) = ∑ s ∈ Finset.range ((j : ℕ) + 1), X s := by
  show Host.reduceWindow (· + ·) ![1, 1, 64] ![1, 1, 1] ![0, 0, 63] ![0, 0, 0] x (fun _ : (⟨0, ![]⟩ : Shape).Idx => init (Shape.Idx.first h_S_))
    reduceWindows_S16x8x64_S16x8x64_w1s1p0_0_w1s1p0_0_w64s1p63_0 (by decide) (ix3 b h j) = _
  unfold Host.reduceWindow
  dsimp only
  rw [foldl_add_sum, hinit, zero_add, ← sum_window j j.isLt X]
  have e0 : ∀ n : Fin 64, ((⟨3, ![1, 1, 64]⟩ : Shape).rowMajor.symm n 0).val = 0 := by decide +kernel
  have e1 : ∀ n : Fin 64, ((⟨3, ![1, 1, 64]⟩ : Shape).rowMajor.symm n 1).val = 0 := by decide +kernel
  have e2 : ∀ n : Fin 64, ((⟨3, ![1, 1, 64]⟩ : Shape).rowMajor.symm n 2).val = n.val := by decide +kernel
  refine Eq.trans (Fin.sum_univ_def (n := 64) _).symm (Finset.sum_congr rfl fun n _ => ?_)
  have hj := j.isLt
  have hn := n.isLt
  by_cases hc : 63 ≤ (j : ℕ) + (n : ℕ)
  · rw [if_pos hc, ← hx ⟨(j : ℕ) + n - 63, by omega⟩]
    rw [dif_pos]
    · congr 1
      funext a
      apply Fin.ext
      fin_cases a
      · show (b : ℕ) * 1 + ((⟨3, ![1, 1, 64]⟩ : Shape).rowMajor.symm n 0).val - 0 = b
        rw [e0]; omega
      · show (h : ℕ) * 1 + ((⟨3, ![1, 1, 64]⟩ : Shape).rowMajor.symm n 1).val - 0 = h
        rw [e1]; omega
      · show (j : ℕ) * 1 + ((⟨3, ![1, 1, 64]⟩ : Shape).rowMajor.symm n 2).val - 63 = (j : ℕ) + n - 63
        rw [e2]; omega
    · intro a
      fin_cases a
      · show 0 ≤ (b : ℕ) * 1 + ((⟨3, ![1, 1, 64]⟩ : Shape).rowMajor.symm n 0).val ∧ (b : ℕ) * 1 + ((⟨3, ![1, 1, 64]⟩ : Shape).rowMajor.symm n 0).val - 0 < 16
        rw [e0]; omega
      · show 0 ≤ (h : ℕ) * 1 + ((⟨3, ![1, 1, 64]⟩ : Shape).rowMajor.symm n 1).val ∧ (h : ℕ) * 1 + ((⟨3, ![1, 1, 64]⟩ : Shape).rowMajor.symm n 1).val - 0 < 8
        rw [e1]; omega
      · show 63 ≤ (j : ℕ) * 1 + ((⟨3, ![1, 1, 64]⟩ : Shape).rowMajor.symm n 2).val ∧ (j : ℕ) * 1 + ((⟨3, ![1, 1, 64]⟩ : Shape).rowMajor.symm n 2).val - 63 < 64
        rw [e2]; omega
  · rw [if_neg hc, dif_neg]
    intro hin
    have h2 : 63 ≤ (j : ℕ) * 1 + ((⟨3, ![1, 1, 64]⟩ : Shape).rowMajor.symm n 2).val := (hin 2).1
    rw [e2] at h2
    omega

end Cert.RefOps

end
-- ==== Proof.KernelTile.lean ====
/- What one grid point of the kernel computes in its mixer, written once over the chunk, the pair of heads and the head:
   the gate quantities of a chunk, one head's output block, the new state of a pair. -/
module

public import proofs.«01_k».proof.Proof.Gen.KernelIdeal.Value

@[expose] public section

set_option maxRecDepth 16384

noncomputable section

namespace Cert.Tile

open Cert.KernelIdeal Cert.KernelIdeal.Gen Idealize.ShloMosaic Idealize.ShloMosaic.TcCoe

variable {F : FTy → Type} [FloatOps F]

/-- A slice of one axis pair inside a larger array. -/
theorem slices2 {a b c d r s : ℕ} (hr : r + c ≤ a) (hs : s + d ≤ b) :
    (⟨2, ![a, b]⟩ : Shape).Slices ![r, s] ⟨2, ![c, d]⟩ :=
  ⟨rfl, fun x => by fin_cases x; exacts [hr, hs]⟩

/-- A chunk lies in the tile. -/
theorem ch_le (ch : Fin 2) : 256 * (ch : ℕ) + 256 ≤ 512 := by omega

/-- One step of a running sum or maximum along the rows: combine with the row `s` above, `fill` where there is none. -/
def step (op : FVec F S256x128 .f32 → FVec F S256x128 .f32 → FVec F S256x128 .f32) (fill : F .f32) (s : BitVec 32)
    (v : FVec F S256x128 .f32) : FVec F S256x128 .f32 :=
  op v (select (cmpi .sge (iota .tc S256x128 32 [0] iota_S256x128_d0_w32) (broadcast S256x128 s))
    (dynamicRotate 0 s none v rotates_S256x128_d0) (broadcast S256x128 fill))

/-- The eight doubling steps. -/
def scan (op : FVec F S256x128 .f32 → FVec F S256x128 .f32 → FVec F S256x128 .f32) (fill : F .f32)
    (v : FVec F S256x128 .f32) : FVec F S256x128 .f32 :=
  step op fill 128#32 (step op fill 64#32 (step op fill 32#32 (step op fill 16#32 (step op fill 8#32
    (step op fill 4#32 (step op fill 2#32 (step op fill 1#32 v)))))))

section gates

variable (g : FVec F S512x256 .f32) (ch : Fin 2) (mp : FVec F S1x128 .f32)

/-- The input gates of a chunk. -/
def ig : FVec F S256x128 .f32 := extractStridedSlice S256x128 ![256 * (ch : ℕ), 0] g (slices2 (ch_le ch) (by decide))
/-- The forget gates of a chunk before the logarithm. -/
def fg : FVec F S256x128 .f32 := extractStridedSlice S256x128 ![256 * (ch : ℕ), 128] g (slices2 (ch_le ch) (by decide))
/-- The logarithms of the forget gates. -/
def lf : FVec F S256x128 .f32 :=
  subf (minimumf (fg g ch) (broadcast S256x128 (Scalar.ofBits .f32 0x00000000#32)))
    (log1p (exp (subf (broadcast S256x128 (Scalar.ofBits .f32 0x00000000#32)) (absf (fg g ch)))))
/-- Their running sums. -/
def bs : FVec F S256x128 .f32 := scan addf (Scalar.ofBits .f32 0x00000000#32) (lf g ch)
/-- Input gate minus running sum. -/
def rs : FVec F S256x128 .f32 := subf (ig g ch) (bs g ch)
/-- The running sum plus the maximum before the chunk. -/
def apm : FVec F S256x128 .f32 := addf (bs g ch) (broadcastTo S256x128 mp broadcasts_S1x128_S256x128)
/-- The maximum at each row. -/
def mrow : FVec F S256x128 .f32 :=
  maximumf (apm g ch mp) (addf (bs g ch) (scan maximumf (Scalar.ofBits .f32 0xFF800000#32) (rs g ch)))
/-- The row part of a weight's exponent. -/
def ecol : FVec F S256x128 .f32 := subf (bs g ch) (mrow g ch mp)
/-- The factor of the state before the chunk. -/
def wcol : FVec F S256x128 .f32 := exp (subf (apm g ch mp) (mrow g ch mp))
/-- The floor of the denominator. -/
def ncol : FVec F S256x128 .f32 := exp (subf (broadcast S256x128 (Scalar.ofBits .f32 0x00000000#32)) (mrow g ch mp))
/-- The sum over the chunk. -/
def btot : FVec F S1x128 .f32 := extractStridedSlice S1x128 ![255, 0] (bs g ch) slices_S256x128_o255_0_S1x128
/-- The exponents with which the chunk's rows enter the next state. -/
def sc : FVec F S256x128 .f32 :=
  addf (subf (broadcastTo S256x128 (btot g ch) broadcasts_S1x128_S256x128) (bs g ch)) (ig g ch)
/-- The maximum after the chunk. -/
def mnew : FVec F S1x128 .f32 :=
  maximumf (addf (btot g ch) mp) (shapeCast S1x128
    (multiReduction .maximumf [0] S128 (sc g ch) 0xFF800000#32 reduces_S256x128_S128 (.inl rfl) rfl) shapeCasts_S128_S1x128)
/-- The factors with which the chunk's rows enter the next state. -/
def kcol : FVec F S256x128 .f32 :=
  exp (subf (sc g ch) (broadcastTo S256x128 (mnew g ch mp) broadcasts_S1x128_S256x128))
/-- The factor of the state before the chunk in the next state. -/
def dcol : FVec F S1x128 .f32 := exp (subf (addf (btot g ch) mp) (mnew g ch mp))
/-- The maximum after the chunk, in every row. -/
def mout : FVec F S8x128 .f32 :=
  shapeCast S8x128 (broadcastTo S8x128 (shapeCast S1x128 (mnew g ch mp) shapeCasts_S1x128_S1x128) broadcasts_S1x128_S8x128)
    shapeCasts_S8x128_S8x128
/-- Input gate minus running sum, with the rows along the lanes. -/
def rsT : FVec F S128x256 .f32 := transpose S128x256 [1, 0] (rs g ch) transposes_S256x128_p1_0_S128x256

end gates

/-- Which of a pair's two heads a lane of the keys belongs to. -/
def lane : IVec S256x128 32 := k0_pay282
/-- Which of the two heads a row of the pair's state belongs to. -/
def srow : IVec S128x256 32 :=
  k0_pay285 (iota .tc S128x256 32 [0] iota_S128x256_d0_w32) 64#32 k0_pay283 k0_pay284 1#1
/-- Which of the two heads a column of the pair's state belongs to. -/
def scol : IVec S128x256 32 := k0_pay286

/-- Head number of the pair and the head within it. -/
def hd (pr : Fin 4) (sb : Fin 2) : ℕ := 2 * (pr : ℕ) + (sb : ℕ)

/-- A pair's head is one of the eight. -/
theorem hd_lt (pr : Fin 4) (sb : Fin 2) : hd pr sb < 8 := by unfold hd; omega

section heads

variable (u : FVec F S512x3072 .f32) (g : FVec F S512x256 .f32) (ch : Fin 2) (mp : FVec F S1x128 .f32) (pr : Fin 4)

/-- 128 columns of the chunk's projections. -/
def slu (o : ℕ) (h : o + 128 ≤ 3072) : FVec F S256x128 .f32 :=
  extractStridedSlice S256x128 ![256 * (ch : ℕ), o] u (slices2 (ch_le ch) h)
/-- The queries of a pair. -/
def q : FVec F S256x128 .f32 := slu u ch (128 * (pr : ℕ)) (by omega)
/-- Its keys. -/
def k : FVec F S256x128 .f32 :=
  mulf (slu u ch (512 + 128 * (pr : ℕ)) (by omega)) (broadcast S256x128 (Scalar.ofBits .f32 0x3E000000#32))
/-- The values of a head. -/
def v (sb : Fin 2) : FVec F S256x128 .bf16 :=
  truncf .bf16 (slu u ch (1024 + 128 * hd pr sb) (by have := hd_lt pr sb; omega)) bitsLt_bf16_f32
/-- The output gate of a head. -/
def og (sb : Fin 2) : FVec F S256x128 .f32 := slu u ch (2048 + 128 * hd pr sb) (by have := hd_lt pr sb; omega)

/-- The lanes of one head. -/
def own (sb : Fin 2) : IVec S256x128 1 := cmpi .eq lane (broadcast S256x128 (BitVec.ofNat 32 (sb : ℕ)))

/-- A head's column of an array of the chunk. -/
def colAt (x : FVec F S256x128 .f32) (h : ℕ) (hh : h < 8) : FVec F S256x1 .f32 :=
  extractStridedSlice S256x1 ![0, h] x (slices2 (by decide) (by omega))

/-- The queries against the state before the chunk. -/
def qc (cv : FVec F S1x128x256 .f32) : FVec F S256x256 .f32 :=
  matmul dot_S256x128_S128x256_S256x256_1_0_0_1_n_n none (truncf .bf16 (q u ch pr) bitsLt_bf16_f32)
    (truncf .bf16 (shapeCast S128x256 cv shapeCasts_S1x128x256_S128x256) bitsLt_bf16_f32) (constant S256x256 .f32 0x00000000#32)

/-- The weights of a head, row against row. -/
def wt (sb : Fin 2) : FVec F S256x256 .bf16 :=
  truncf .bf16 (mulf
    (matmul dot_S256x128_S256x128_S256x256_1_1_0_0_n_n none (truncf .bf16 (q u ch pr) bitsLt_bf16_f32)
      (truncf .bf16 (select (own sb) (k u ch pr) (broadcast S256x128 (Scalar.ofBits .f32 0x00000000#32))) bitsLt_bf16_f32)
      (constant S256x256 .f32 0x00000000#32))
    (exp (select k0_pay281
      (addf (broadcastTo S256x256 (colAt (ecol g ch mp) (hd pr sb) (hd_lt pr sb)) broadcasts_S256x1_S256x256)
        (broadcastTo S256x256 (extractStridedSlice S1x256 ![hd pr sb, 0] (rsT g ch)
          (slices2 (by have := hd_lt pr sb; omega) (by decide))) broadcasts_S1x256_S256x256))
      (broadcast S256x256 (Scalar.ofBits .f32 0xFF800000#32))))) bitsLt_bf16_f32

/-- The weights against the values, and against ones. -/
def pv (sb : Fin 2) : FVec F S256x256 .f32 :=
  matmul dot_S256x256_S256x256_S256x256_1_0_0_1_n_n none (wt u g ch mp pr sb)
    (concatenate S256x256 1 [⟨S256x128, v u ch pr sb⟩, ⟨S256x128, k0_pay287⟩] concatenates_S256x128_S256x128_S256x256_d1)
    (constant S256x256 .f32 0x00000000#32)

/-- The queries against the summed keys before the chunk. -/
def qn (sb : Fin 2) (nv : FVec F S1x128 .f32) : FVec F S256x1 .f32 :=
  shapeCast S256x1 (multiReduction .add [1] S256
    (mulf (select (own sb) (q u ch pr) (broadcast S256x128 (Scalar.ofBits .f32 0x00000000#32)))
      (broadcastTo S256x128 nv broadcasts_S1x128_S256x128)) 0x00000000#32 reduces_S256x128_S256 (.inl rfl) rfl) shapeCasts_S256_S256x1

/-- The numerator of a head's output. -/
def num (sb : Fin 2) (cv : FVec F S1x128x256 .f32) : FVec F S256x128 .f32 :=
  addf (extractStridedSlice S256x128 ![0, 0] (pv u g ch mp pr sb) slices_S256x256_o0_0_S256x128)
    (mulf (broadcastTo S256x128 (colAt (wcol g ch mp) (hd pr sb) (hd_lt pr sb)) broadcasts_S256x1_S256x128)
      (extractStridedSlice S256x128 ![0, 128 * (sb : ℕ)] (qc u ch pr cv) (slices2 (by decide) (by omega))))

/-- The denominator of a head's output. -/
def den (sb : Fin 2) (nv : FVec F S1x128 .f32) : FVec F S256x128 .f32 :=
  maximumf (absf (addf (extractStridedSlice S256x128 ![0, 128] (pv u g ch mp pr sb) slices_S256x256_o0_128_S256x128)
      (broadcastTo S256x128 (mulf (colAt (wcol g ch mp) (hd pr sb) (hd_lt pr sb)) (qn u ch pr sb nv)) broadcasts_S256x1_S256x128)))
    (broadcastTo S256x128 (colAt (ncol g ch mp) (hd pr sb) (hd_lt pr sb)) broadcasts_S256x1_S256x128)

/-- A head's output before its norm. -/
def hh (sb : Fin 2) (cv : FVec F S1x128x256 .f32) (nv : FVec F S1x128 .f32) : FVec F S256x128 .f32 :=
  divf (num u g ch mp pr sb cv) (den u g ch mp pr sb nv)

/-- A head's output, normed and gated. -/
def gated (hg : FVec F S1x1024 .f32) (sb : Fin 2) (x : FVec F S256x128 .f32) : FVec F S256x128 .bf16 :=
  shapeCast S256x128 (truncf .bf16 (mulf (logistic (og u ch pr sb))
    (mulf (mulf x (broadcastTo S256x128 (rsqrt (addf (divf
        (shapeCast S256x1 (multiReduction .add [1] S256 (mulf x x) 0x00000000#32 reduces_S256x128_S256 (.inl rfl) rfl) shapeCasts_S256_S256x1)
        (broadcast S256x1 (Scalar.ofBits .f32 0x43000000#32))) (broadcast S256x1 (Scalar.ofBits .f32 0x358637BD#32)))) broadcasts_S256x1_S256x128))
      (broadcastTo S256x128 (extractStridedSlice S1x128 ![0, 128 * hd pr sb] (k0_pay288 hg)
        (slices2 (by decide) (by have := hd_lt pr sb; omega))) broadcasts_S1x128_S256x128))) bitsLt_bf16_f32) shapeCasts_S256x128_S256x128

/-- The keys weighted for the next state. -/
def kw : FVec F S256x128 .f32 :=
  mulf (k u ch pr) (select (own 0)
    (broadcastTo S256x128 (shapeCast S256x1 (colAt (kcol g ch mp) (hd pr 0) (hd_lt pr 0)) shapeCasts_S256x1_S256x1) broadcasts_S256x1_S256x128)
    (broadcastTo S256x128 (shapeCast S256x1 (colAt (kcol g ch mp) (hd pr 1) (hd_lt pr 1)) shapeCasts_S256x1_S256x1) broadcasts_S256x1_S256x128))

/-- A head's decay over the chunk. -/
def dAt (sb : Fin 2) : FVec F S1x1 .f32 :=
  shapeCast S1x1 (extractStridedSlice S1x1 ![0, hd pr sb] (dcol g ch mp)
    (slices2 (by decide) (by have := hd_lt pr sb; omega))) shapeCasts_S1x1_S1x1

/-- The pair's next state. -/
def cNew (cv : FVec F S1x128x256 .f32) : FVec F S1x128x256 .f32 :=
  shapeCast S1x128x256 (addf
    (mulf (select (cmpi .eq scol (broadcast S128x256 0#32)) (broadcastTo S128x256 (dAt g ch mp pr 0) broadcasts_S1x1_S128x256)
      (broadcastTo S128x256 (dAt g ch mp pr 1) broadcasts_S1x1_S128x256)) (shapeCast S128x256 cv shapeCasts_S1x128x256_S128x256))
    (select (cmpi .eq srow scol)
      (matmul dot_S256x128_S256x256_S128x256_0_0_1_1_n_n none (truncf .bf16 (kw u g ch mp pr) bitsLt_bf16_f32)
        (concatenate S256x256 1 [⟨S256x128, v u ch pr 0⟩, ⟨S256x128, v u ch pr 1⟩] concatenates_S256x128_S256x128_S256x256_d1)
        (constant S128x256 .f32 0x00000000#32))
      (broadcast S128x256 (Scalar.ofBits .f32 0x00000000#32)))) shapeCasts_S128x256_S1x128x256

/-- The pair's next summed keys. -/
def nNew (nv : FVec F S1x128 .f32) : FVec F S1x128 .f32 :=
  shapeCast S1x128 (addf
    (mulf (select (extractStridedSlice S1x128 ![0, 0] (own 0) slices_S256x128_o0_0_S1x128)
      (broadcastTo S1x128 (dAt g ch mp pr 0) broadcasts_S1x1_S1x128) (broadcastTo S1x128 (dAt g ch mp pr 1) broadcasts_S1x1_S1x128)) nv)
    (shapeCast S1x128 (multiReduction .add [0] S128 (kw u g ch mp pr) 0x00000000#32 reduces_S256x128_S128 (.inl rfl) rfl)
      shapeCasts_S128_S1x128)) shapeCasts_S1x128_S1x128

end heads

end Cert.Tile

end
-- ==== Proof.Chunk.lean ====
/-
  The stabilised gated recurrence over the reals, and the fact that cutting the time axis into chunks of any
  length computes the same thing: the running maximum, the weighted sums, and the output of one position.
-/
module

public import Mathlib.Data.EReal.Basic
public import Mathlib.Data.EReal.Operations
public import Mathlib.Analysis.SpecialFunctions.Exp

@[expose] public section

noncomputable section

namespace Cert.Chunk

variable (lf ig : ℕ → ℝ)

/-- The sum of the log forget gates of the first `t` tokens. -/
def B (t : ℕ) : ℝ := ∑ s ∈ Finset.range t, lf s

/-- The stabiliser after `t` tokens: `m ← max (log f + m) i`, from zero. -/
def M : ℕ → ℝ
  | 0 => 0
  | t + 1 => max (lf t + M t) (ig t)

/-- The weight token `s` has in the state after `t` tokens. -/
def W (t s : ℕ) : ℝ := Real.exp (B lf t - B lf (s + 1) + ig s - M lf ig t)

/-- The weighted sum of `f` over the first `t` tokens. -/
def S (t : ℕ) (f : ℕ → ℝ) : ℝ := ∑ s ∈ Finset.range t, W lf ig t s * f s

/-- A sum of reals embedded in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The sum of the first `t + 1` gates. -/
theorem B_succ (t : ℕ) : B lf (t + 1) = B lf t + lf t := Finset.sum_range_succ _ _

/-- The gates of `j` tokens from token `T` on. -/
theorem B_add (T j : ℕ) : B lf (T + j) = B lf T + ∑ s ∈ Finset.range j, lf (T + s) := Finset.sum_range_add _ _ _

/-- The maximum of two reals embedded in the extended reals. -/
theorem coe_max (a b : ℝ) : ((max a b : ℝ) : EReal) = max (a : EReal) (b : EReal) :=
  EReal.coe_strictMono.monotone.map_max

/-- The stabiliser less the gates' sum is the running maximum of the input gates less theirs. -/
theorem M_sub_B (T j : ℕ) :
    ((M lf ig (T + j) - B lf (T + j) : ℝ) : EReal) = max ((M lf ig T - B lf T : ℝ) : EReal)
      ((Finset.range j).sup fun s => ((ig (T + s) - B lf (T + s + 1) : ℝ) : EReal)) := by
  induction j with
  | zero => simp
  | succ j ih =>
    have e : M lf ig (T + (j + 1)) - B lf (T + (j + 1))
        = max (M lf ig (T + j) - B lf (T + j)) (ig (T + j) - B lf (T + j + 1)) := by
      rw [show T + (j + 1) = (T + j) + 1 from rfl, M, B_succ, ← max_sub_sub_right]
      congr 1; ring
    rw [e, coe_max, ih, Finset.range_add_one, Finset.sup_insert, max_assoc]
    congr 1
    exact max_comm _ _

/-- Adding a real to a running maximum adds it to every member. -/
theorem sup_add {ι : Type*} (s : Finset ι) (f : ι → EReal) (c : ℝ) : s.sup f + (c : EReal) = s.sup fun i => f i + (c : EReal) := by
  classical
  induction s using Finset.induction_on with
  | empty => simp
  | insert a s ha ih =>
    rw [Finset.sup_insert, Finset.sup_insert, ← ih]
    exact (show Monotone fun x : EReal => x + (c : EReal) from fun a b h => add_le_add_left h _).map_max

/-- The stabiliser of the `j`-th position of a chunk at `T`: the running maximum added to the gates' sum in the chunk. -/
theorem M_row (T j : ℕ) :
    ((M lf ig (T + j) : ℝ) : EReal) = max (((B lf (T + j) - B lf T) + M lf ig T : ℝ) : EReal)
      (((B lf (T + j) - B lf T : ℝ) : EReal)
        + (Finset.range j).sup fun s => ((ig (T + s) - (B lf (T + s + 1) - B lf T) : ℝ) : EReal)) := by
  have h := M_sub_B lf ig T j
  have e : ((M lf ig (T + j) : ℝ) : EReal) = ((M lf ig (T + j) - B lf (T + j) : ℝ) : EReal) + ((B lf (T + j) : ℝ) : EReal) := by
    rw [← EReal.coe_add]; congr 1; ring
  rw [e, h, (show Monotone fun x : EReal => x + ((B lf (T + j) : ℝ) : EReal) from fun a b h => add_le_add_left h _).map_max]
  congr 1
  · rw [← EReal.coe_add]; congr 1; ring
  · rw [sup_add, add_comm ((B lf (T + j) - B lf T : ℝ) : EReal), sup_add]
    refine Finset.sup_congr rfl fun s _ => ?_
    rw [← EReal.coe_add, ← EReal.coe_add]; congr 1; ring

/-- The same with the gates' sum inside the maximum. -/
theorem M_row' (T j : ℕ) :
    ((M lf ig (T + j) : ℝ) : EReal) = max (((B lf (T + j) - B lf T) + M lf ig T : ℝ) : EReal)
      ((Finset.range j).sup fun s => ((B lf (T + j) - B lf T) - (B lf (T + s + 1) - B lf T) + ig (T + s) : ℝ)) := by
  rw [M_row, add_comm ((B lf (T + j) - B lf T : ℝ) : EReal), sup_add]
  congr 1
  refine Finset.sup_congr rfl fun s _ => ?_
  rw [← EReal.coe_add]; congr 1; ring

/-- A weighted sum cut at the start `T` of a chunk. -/
theorem S_chunk (T j : ℕ) (f : ℕ → ℝ) :
    S lf ig (T + j) f = (∑ s ∈ Finset.range j,
        Real.exp (B lf (T + j) - B lf T - (B lf (T + s + 1) - B lf T) + ig (T + s) - M lf ig (T + j)) * f (T + s))
      + Real.exp (B lf (T + j) - B lf T + M lf ig T - M lf ig (T + j)) * S lf ig T f := by
  unfold S W
  rw [Finset.sum_range_add, add_comm, Finset.mul_sum]
  congr 1
  · refine Finset.sum_congr rfl fun s _ => ?_
    congr 2; ring
  · refine Finset.sum_congr rfl fun s _ => ?_
    rw [← mul_assoc, ← Real.exp_add]
    congr 2; ring

/-- A weighted sum is linear: a fixed combination goes inside. -/
theorem S_comb {ι : Type*} (t : ℕ) (s : Finset ι) (q : ι → ℝ) (f : ι → ℕ → ℝ) :
    ∑ d ∈ s, q d * S lf ig t (f d) = S lf ig t fun r => ∑ d ∈ s, q d * f d r := by
  unfold S
  simp_rw [Finset.mul_sum]
  rw [Finset.sum_comm]
  refine Finset.sum_congr rfl fun r _ => Finset.sum_congr rfl fun d _ => ?_
  ring

/-- No token, no sum. -/
theorem S_zero (f : ℕ → ℝ) : S lf ig 0 f = 0 := by simp [S]

/-- The output of position `t` for the products `p` of its query with the keys and a column `v` of the values. -/
def H (t : ℕ) (p v : ℕ → ℝ) : ℝ :=
  S lf ig (t + 1) (fun s => p s * v s) / max |S lf ig (t + 1) p| (Real.exp (-M lf ig (t + 1)))

end Cert.Chunk

end
-- ==== Proof.TileGate.lean ====
/- The gate quantities of a chunk over the reals: with the gates real, one lane of the running sums is the sum of the log
   forget gates so far, one lane of the maxima the stabiliser, and the factors their exponentials. -/
module

public import proofs.«01_k».proof.Proof.KernelTile
public import proofs.«01_k».proof.Proof.Chunk
public import Idealize.ShloMosaic.Lib.Pointwise

@[expose] public section

set_option maxRecDepth 16384

noncomputable section

namespace Cert.TileGate

open Cert.KernelIdeal Cert.KernelIdeal.Gen Idealize.ShloMosaic Idealize.ShloMosaic.TcCoe Cert.Tile Cert.Chunk

/-- A selection by a signed comparison of small numbers. -/
theorem sel_sge (r w : ℕ) (hr : r < 256) (hw : w < 256) {α : Type} (a b : α) :
    Scalar.select (IntOp.cmpi .sge (BitVec.ofNat 32 r) (BitVec.ofNat 32 w)) a b = if w ≤ r then a else b := by
  have e : IntOp.cmpi .sge (BitVec.ofNat 32 r) (BitVec.ofNat 32 w) = BitVec.ofBool (decide (w ≤ r)) := by
    show BitVec.ofBool ((BitVec.ofNat 32 w).sle (BitVec.ofNat 32 r)) = _
    congr 1
    rw [BitVec.sle, BitVec.toInt_ofNat', BitVec.toInt_ofNat']
    congr 1
    simp only [eq_iff_iff]
    simp [Int.bmod_def]
    omega
  rw [e]
  by_cases h : w ≤ r <;> simp [h, Scalar.select]

/-- A selection by the equality of small numbers. -/
theorem sel_eq (r w : ℕ) (hr : r < 256) (hw : w < 256) {α : Type} (a b : α) :
    Scalar.select (IntOp.cmpi .eq (BitVec.ofNat 32 r) (BitVec.ofNat 32 w)) a b = if r = w then a else b := by
  have e : IntOp.cmpi .eq (BitVec.ofNat 32 r) (BitVec.ofNat 32 w) = BitVec.ofBool (decide (r = w)) := by
    show BitVec.ofBool (BitVec.ofNat 32 r == BitVec.ofNat 32 w) = _
    congr 1
    by_cases h : r = w
    · simp [h]
    · have : BitVec.ofNat 32 r ≠ BitVec.ofNat 32 w := fun h' => h (by
        have := congrArg BitVec.toNat h'; simp at this; omega)
      simp [h, this]
  rw [e]
  by_cases h : r = w <;> simp [h, Scalar.select]

/-- The constant that fills a running maximum is minus infinity. -/
theorem ninf : Ideal.ofBits .f32 0xFF800000#32 = (⊥ : EReal) := by simp [Ideal.ofBits, Ideal.ieee]

/-- One step of a running sum doubles the window. -/
theorem step_add (v : FVec Ideal S256x128 .f32) (c : Fin 128) (x : ℕ → EReal) (w : ℕ) (hw : w < 256)
    (hv : ∀ r : Fin 256, v (ix2 r c) = ∑ j ∈ Finset.Ico ((r : ℕ) + 1 - w) ((r : ℕ) + 1), x j) (r : Fin 256) :
    step (F := Ideal) addf (Scalar.ofBits .f32 0x00000000#32) (BitVec.ofNat 32 w) v (ix2 r c)
      = ∑ j ∈ Finset.Ico ((r : ℕ) + 1 - 2 * w) ((r : ℕ) + 1), x j := by
  pointwise [step]
  rw [sel_sge _ _ r.isLt hw]
  have hr := r.isLt
  have ew : (BitVec.ofNat 32 w).toNat = w := by simp; omega
  split
  · rename_i h
    have e : (⟨((r : ℕ) + 256 - (BitVec.ofNat 32 w).toNat % 256) % 256, Nat.mod_lt _ (by decide)⟩ : Fin 256)
        = ⟨(r : ℕ) - w, by omega⟩ := by apply Fin.ext; simp only [ew]; omega
    rw [e, hv, hv]
    rw [show (r : ℕ) + 1 - 2 * w = (r : ℕ) - w + 1 - w from by omega,
      ← Finset.sum_Ico_consecutive x (show (r : ℕ) - w + 1 - w ≤ (r : ℕ) - w + 1 by omega) (show (r : ℕ) - w + 1 ≤ (r : ℕ) + 1 by omega),
      add_comm, show (r : ℕ) + 1 - w = (r : ℕ) - w + 1 from by omega]
  · rw [hv, add_zero, show (r : ℕ) + 1 - 2 * w = (r : ℕ) + 1 - w from by omega]

/-- One step of a running maximum doubles the window. -/
theorem step_max (v : FVec Ideal S256x128 .f32) (c : Fin 128) (x : ℕ → EReal) (w : ℕ) (hw : w < 256)
    (hv : ∀ r : Fin 256, v (ix2 r c) = (Finset.Ico ((r : ℕ) + 1 - w) ((r : ℕ) + 1)).sup x) (r : Fin 256) :
    step (F := Ideal) maximumf (Ideal.ofBits .f32 0xFF800000#32) (BitVec.ofNat 32 w) v (ix2 r c)
      = (Finset.Ico ((r : ℕ) + 1 - 2 * w) ((r : ℕ) + 1)).sup x := by
  pointwise [step]
  rw [sel_sge _ _ r.isLt hw, ninf]
  have hr := r.isLt
  have ew : (BitVec.ofNat 32 w).toNat = w := by simp; omega
  split
  · rename_i h
    have e : (⟨((r : ℕ) + 256 - (BitVec.ofNat 32 w).toNat % 256) % 256, Nat.mod_lt _ (by decide)⟩ : Fin 256)
        = ⟨(r : ℕ) - w, by omega⟩ := by apply Fin.ext; simp only [ew]; omega
    rw [e, hv, hv]
    rw [show (r : ℕ) + 1 - 2 * w = (r : ℕ) - w + 1 - w from by omega,
      ← Finset.Ico_union_Ico_eq_Ico (show (r : ℕ) - w + 1 - w ≤ (r : ℕ) - w + 1 by omega) (show (r : ℕ) - w + 1 ≤ (r : ℕ) + 1 by omega),
      Finset.sup_union, sup_comm, show (r : ℕ) + 1 - w = (r : ℕ) - w + 1 from by omega]
  · rw [hv, max_bot_right, show (r : ℕ) + 1 - 2 * w = (r : ℕ) + 1 - w from by omega]

/-- The eight steps sum every row up to the last. -/
theorem scan_add (v : FVec Ideal S256x128 .f32) (c : Fin 128) (x : ℕ → EReal) (hv : ∀ r : Fin 256, v (ix2 r c) = x r) (r : Fin 256) :
    scan (F := Ideal) addf (Scalar.ofBits .f32 0x00000000#32) v (ix2 r c) = ∑ j ∈ Finset.range ((r : ℕ) + 1), x j := by
  have h0 : ∀ r : Fin 256, v (ix2 r c) = ∑ j ∈ Finset.Ico ((r : ℕ) + 1 - 1) ((r : ℕ) + 1), x j := fun r => by simp [hv]
  have h := step_add _ c x 128 (by decide) (step_add _ c x 64 (by decide) (step_add _ c x 32 (by decide) (step_add _ c x 16 (by decide)
    (step_add _ c x 8 (by decide) (step_add _ c x 4 (by decide) (step_add _ c x 2 (by decide) (step_add v c x 1 (by decide) h0))))))) r
  rw [show (r : ℕ) + 1 - 2 * 128 = 0 from by omega, ← Finset.range_eq_Ico] at h
  exact h

/-- The eight steps take the maximum over every row up to the last. -/
theorem scan_max (v : FVec Ideal S256x128 .f32) (c : Fin 128) (x : ℕ → EReal) (hv : ∀ r : Fin 256, v (ix2 r c) = x r) (r : Fin 256) :
    scan (F := Ideal) maximumf (Ideal.ofBits .f32 0xFF800000#32) v (ix2 r c) = (Finset.range ((r : ℕ) + 1)).sup x := by
  have h0 : ∀ r : Fin 256, v (ix2 r c) = (Finset.Ico ((r : ℕ) + 1 - 1) ((r : ℕ) + 1)).sup x := fun r => by simp [hv]
  have h := step_max _ c x 128 (by decide) (step_max _ c x 64 (by decide) (step_max _ c x 32 (by decide) (step_max _ c x 16 (by decide)
    (step_max _ c x 8 (by decide) (step_max _ c x 4 (by decide) (step_max _ c x 2 (by decide) (step_max v c x 1 (by decide) h0))))))) r
  rw [show (r : ℕ) + 1 - 2 * 128 = 0 from by omega, ← Finset.range_eq_Ico] at h
  exact h

section lanes

variable (g : FVec Ideal S512x256 .f32) (ch : Fin 2) (mp : FVec Ideal S1x128 .f32) (c : Fin 128) (T : ℕ) (l i : ℕ → ℝ)
  (hl : ∀ r : Fin 256, lf g ch (ix2 r c) = ((l (T + r) : ℝ) : EReal))
  (hi : ∀ r : Fin 256, Tile.ig g ch (ix2 r c) = ((i (T + r) : ℝ) : EReal))
  (hm : mp (ix2 0 c) = ((M l i T : ℝ) : EReal))

include hl in
/-- The summed forget gates of the chunk, up to and with row `r`. -/
theorem bs_eq (r : Fin 256) : bs g ch (ix2 r c) = ((B l (T + r + 1) - B l T : ℝ) : EReal) := by
  rw [bs, scan_add _ c (fun j => ((l (T + j) : ℝ) : EReal)) hl r, ← coe_sum, show T + (r : ℕ) + 1 = T + ((r : ℕ) + 1) from rfl, B_add]
  simp

include hl hi in
/-- The input gate less the summed forget gates. -/
theorem rs_eq (r : Fin 256) : rs g ch (ix2 r c) = ((i (T + r) - (B l (T + r + 1) - B l T) : ℝ) : EReal) := by
  pointwise [rs]
  rw [bs_eq g ch c T l hl, hi, ← EReal.coe_sub]

include hl hm in
/-- The logarithm of the carried state's weight at a row, before the stabiliser. -/
theorem apm_eq (r : Fin 256) : apm g ch mp (ix2 r c) = ((B l (T + r + 1) - B l T + M l i T : ℝ) : EReal) := by
  pointwise [apm]
  rw [bs_eq g ch c T l hl, hm, ← EReal.coe_add]

include hl hi hm in
/-- The stabiliser of a row is the running maximum of all positions up to it. -/
theorem mrow_eq (r : Fin 256) : mrow g ch mp (ix2 r c) = ((M l i (T + r + 1) : ℝ) : EReal) := by
  pointwise [mrow]
  rw [bs_eq g ch c T l hl, apm_eq g ch mp c T l i hl hm,
    scan_max _ c (fun j => ((i (T + j) - (B l (T + j + 1) - B l T) : ℝ) : EReal)) (rs_eq g ch c T l i hl hi),
    show T + (r : ℕ) + 1 = T + ((r : ℕ) + 1) from rfl, M_row]

include hl hi hm in
/-- A row's part of the logarithm of the weights. -/
theorem ecol_eq (r : Fin 256) : ecol g ch mp (ix2 r c) = ((B l (T + r + 1) - B l T - M l i (T + r + 1) : ℝ) : EReal) := by
  pointwise [ecol]
  rw [bs_eq g ch c T l hl, mrow_eq g ch mp c T l i hl hi hm, ← EReal.coe_sub]

include hl hi hm in
/-- The carried state's weight at a row. -/
theorem wcol_eq (r : Fin 256) :
    wcol g ch mp (ix2 r c) = ((Real.exp (B l (T + r + 1) - B l T + M l i T - M l i (T + r + 1)) : ℝ) : EReal) := by
  pointwise [wcol]
  rw [apm_eq g ch mp c T l i hl hm, mrow_eq g ch mp c T l i hl hi hm, ← EReal.coe_sub, Ideal.exp_coe]

include hl hi hm in
/-- The denominator's lower bound at a row. -/
theorem ncol_eq (r : Fin 256) : ncol g ch mp (ix2 r c) = ((Real.exp (-M l i (T + r + 1)) : ℝ) : EReal) := by
  pointwise [ncol]
  rw [mrow_eq g ch mp c T l i hl hi hm, zero_sub, ← EReal.coe_neg, Ideal.exp_coe]

include hl hi in
/-- The logarithm of a row's weight in the next state, before the stabiliser. -/
theorem sc_eq (r : Fin 256) :
    sc g ch (ix2 r c) = ((B l (T + 256) - B l T - (B l (T + r + 1) - B l T) + i (T + r) : ℝ) : EReal) := by
  pointwise [sc, btot]
  rw [bs_eq g ch c T l hl, bs_eq g ch c T l hl, hi, ← EReal.coe_sub, ← EReal.coe_add]
  rfl

include hl hm in
/-- The logarithm of the carried state's weight at the chunk's end, before the stabiliser. -/
theorem btotm_eq : bs g ch (ix2 255 c) + mp (ix2 0 c) = ((B l (T + 256) - B l T + M l i T : ℝ) : EReal) := by
  rw [bs_eq g ch c T l hl, hm, ← EReal.coe_add]
  rfl

/-- A maximum taken over the rows is the supremum over their numbers. -/
theorem fold_sup (n : ℕ) (f : Fin n → EReal) (x : ℕ → EReal) (h : ∀ r : Fin n, f r = x r) :
    Finset.fold max (⊥ : EReal) f Finset.univ = (Finset.range n).sup x := by
  have e : Finset.fold max (⊥ : EReal) f Finset.univ = Finset.univ.sup f := rfl
  rw [e]
  apply le_antisymm
  · refine Finset.sup_le fun r _ => ?_
    rw [h]
    exact Finset.le_sup (f := x) (Finset.mem_range.2 r.isLt)
  · refine Finset.sup_le fun r hr => ?_
    rw [← h ⟨r, Finset.mem_range.1 hr⟩]
    exact Finset.le_sup (f := f) (Finset.mem_univ _)

include hl hi hm in
/-- The next carried maximum is the running maximum up to the chunk's end. -/
theorem mnew_eq : mnew g ch mp (ix2 0 c) = ((M l i (T + 256) : ℝ) : EReal) := by
  have h := sc_eq g ch c T l i hl hi
  pointwise [mnew]
  rw [ninf, fold_sup 256 _ (fun r => ((B l (T + 256) - B l T - (B l (T + r + 1) - B l T) + i (T + r) : ℝ) : EReal)) h, M_row', ← btotm_eq g ch mp c T l i hl hm]
  pointwise [btot]

include hl hi hm in
/-- A row's weight in the next state. -/
theorem kcol_eq (r : Fin 256) : kcol g ch mp (ix2 r c)
    = ((Real.exp (B l (T + 256) - B l T - (B l (T + r + 1) - B l T) + i (T + r) - M l i (T + 256)) : ℝ) : EReal) := by
  pointwise [kcol]
  rw [sc_eq g ch c T l i hl hi, mnew_eq g ch mp c T l i hl hi hm, ← EReal.coe_sub, Ideal.exp_coe]

include hl hi hm in
/-- The carried state's weight in the next state. -/
theorem dcol_eq : dcol g ch mp (ix2 0 c) = ((Real.exp (B l (T + 256) - B l T + M l i T - M l i (T + 256)) : ℝ) : EReal) := by
  have h := mnew_eq g ch mp c T l i hl hi hm
  pointwise [dcol, btot]
  rw [btotm_eq g ch mp c T l i hl hm, h, ← EReal.coe_sub, Ideal.exp_coe]

end lanes

end Cert.TileGate

end
-- ==== Proof.TileHead.lean ====
/- One chunk of one head over the reals: with the chunk's rows real and the state before it the weighted sums of the
   recurrence, the head's output is the recurrence's, and the state after it the weighted sums again. -/
module

public import proofs.«01_k».proof.Proof.TileGate

@[expose] public section

set_option maxRecDepth 16384

noncomputable section

namespace Cert.TileHead

open Cert.KernelIdeal Cert.KernelIdeal.Gen Idealize.ShloMosaic Idealize.ShloMosaic.TcCoe Cert.Tile Cert.Chunk Cert.TileGate

/-- The real rows of one sequence: queries, scaled keys and values by head, coordinate and time; the log forget gates and
    the input gates by head and time. -/
structure Rows where
  q : ℕ → ℕ → ℕ → ℝ
  k : ℕ → ℕ → ℕ → ℝ
  v : ℕ → ℕ → ℕ → ℝ
  l : ℕ → ℕ → ℝ
  i : ℕ → ℕ → ℝ

/-- The weighted sum of head `h`. -/
def Rows.S (D : Rows) (h t : ℕ) (f : ℕ → ℝ) : ℝ := Chunk.S (D.l h) (D.i h) t f
/-- The product of the query of time `t` with the key of time `s`. -/
def Rows.P (D : Rows) (h t s : ℕ) : ℝ := ∑ d ∈ Finset.range 64, D.q h d t * D.k h d s
/-- The output of head `h` at time `t`, coordinate `y`. -/
def Rows.H (D : Rows) (h y t : ℕ) : ℝ := Chunk.H (D.l h) (D.i h) t (D.P h t) (D.v h y)

/-- The chunk `ch` of a tile holds the rows from time `T` on. -/
structure Reads (D : Rows) (T : ℕ) (u : FVec Ideal S512x3072 .f32) (g : FVec Ideal S512x256 .f32) (ch : Fin 2) : Prop where
  hq : ∀ (pr : Fin 4) (r : Fin 256) (x : Fin 128),
    Tile.q u ch pr (ix2 r x) = ((D.q (2 * (pr : ℕ) + (x : ℕ) / 64) ((x : ℕ) % 64) (T + r) : ℝ) : EReal)
  hk : ∀ (pr : Fin 4) (r : Fin 256) (x : Fin 128),
    Tile.k u ch pr (ix2 r x) = ((D.k (2 * (pr : ℕ) + (x : ℕ) / 64) ((x : ℕ) % 64) (T + r) : ℝ) : EReal)
  hv : ∀ (pr : Fin 4) (sb : Fin 2) (r : Fin 256) (y : Fin 128),
    Tile.v u ch pr sb (ix2 r y) = ((D.v (hd pr sb) y (T + r) : ℝ) : EReal)
  hl : ∀ (h : Fin 128), (h : ℕ) < 8 → ∀ r : Fin 256, Tile.lf g ch (ix2 r h) = ((D.l h (T + r) : ℝ) : EReal)
  hi : ∀ (h : Fin 128), (h : ℕ) < 8 → ∀ r : Fin 256, Tile.ig g ch (ix2 r h) = ((D.i h (T + r) : ℝ) : EReal)

/-- The state at time `T`: the weighted sums of key-value products in the two heads' diagonal blocks, of keys, the
    stabilisers. -/
structure StateAt (D : Rows) (T : ℕ) (C : Fin 4 → FVec Ideal S1x128x256 .f32) (N : Fin 4 → FVec Ideal S1x128 .f32)
    (Mv : FVec Ideal S1x128 .f32) : Prop where
  hc : ∀ (pr : Fin 4) (x : Fin 128) (y : Fin 256), C pr (ix3 0 x y) = if (x : ℕ) / 64 = (y : ℕ) / 128 then
    ((D.S (2 * (pr : ℕ) + (x : ℕ) / 64) T (fun t => D.k (2 * (pr : ℕ) + (x : ℕ) / 64) ((x : ℕ) % 64) t
      * D.v (2 * (pr : ℕ) + (x : ℕ) / 64) ((y : ℕ) % 128) t) : ℝ) : EReal) else 0
  hn : ∀ (pr : Fin 4) (x : Fin 128), N pr (ix2 0 x)
    = ((D.S (2 * (pr : ℕ) + (x : ℕ) / 64) T (D.k (2 * (pr : ℕ) + (x : ℕ) / 64) ((x : ℕ) % 64)) : ℝ) : EReal)
  hm : ∀ (h : Fin 128), (h : ℕ) < 8 → Mv (ix2 0 h) = ((M (D.l h) (D.i h) T : ℝ) : EReal)

/-- The head of a lane of the keys. -/
theorem lane_eq (r : Fin 256) (d : Fin 128) : lane (ix2 r d) = BitVec.ofNat 32 ((d : ℕ) / 64) := by
  pointwise [lane, k0_pay282]
  revert d; decide +kernel
/-- The head of a row of the state. -/
theorem srow_eq (r : Fin 128) (d : Fin 256) : srow (ix2 r d) = BitVec.ofNat 32 ((r : ℕ) / 64) := by
  pointwise [srow, k0_pay285, k0_pay284, k0_pay283]
  revert r; decide +kernel
/-- The head of a column of the state. -/
theorem scol_eq (r : Fin 128) (d : Fin 256) : scol (ix2 r d) = BitVec.ofNat 32 ((d : ℕ) / 128) := by
  pointwise [scol, k0_pay286]
  revert d; decide +kernel

/-- A selection by the head of a lane. -/
theorem sel_own (r : Fin 256) (x : Fin 128) (sb : Fin 2) {α : Type} (a b : α) :
    Scalar.select (IntOp.cmpi .eq (lane (ix2 r x)) (BitVec.ofNat 32 (sb : ℕ))) a b = if (x : ℕ) / 64 = (sb : ℕ) then a else b := by
  rw [lane_eq, sel_eq _ _ (by omega) (by omega)]
/-- The lanes of a pair's own head. -/
theorem sel_own0 (r : Fin 256) (x : Fin 128) {α : Type} (a b : α) :
    Scalar.select (IntOp.cmpi .eq (lane (ix2 r x)) 0#32) a b = if (x : ℕ) / 64 = 0 then a else b := sel_own r x 0 a b
/-- The columns of a pair's first head. -/
theorem sel_col0 (x : Fin 128) (y : Fin 256) {α : Type} (a b : α) :
    Scalar.select (IntOp.cmpi .eq (scol (ix2 x y)) 0#32) a b = if (y : ℕ) / 128 = 0 then a else b := by
  rw [scol_eq]; exact sel_eq _ 0 (by omega) (by omega) a b
/-- The two diagonal blocks of a pair's box. -/
theorem sel_diag (x : Fin 128) (y : Fin 256) {α : Type} (a b : α) :
    Scalar.select (IntOp.cmpi .eq (srow (ix2 x y)) (scol (ix2 x y))) a b = if (x : ℕ) / 64 = (y : ℕ) / 128 then a else b := by
  rw [scol_eq, srow_eq, sel_eq _ _ (by omega) (by omega)]

/-- A choice between the two heads by a number below two. -/
theorem pick {α : Type} (n : ℕ) (hn : n < 2) (f : Fin 2 → α) : (if n = 0 then f 0 else f 1) = f ⟨n, hn⟩ := by
  interval_cases n <;> rfl

/-- A sum over one head's half of the lanes. -/
theorem sum_half (sb : Fin 2) (f : Fin 128 → EReal) :
    ∑ x : Fin 128, (if (x : ℕ) / 64 = (sb : ℕ) then f x else 0) = ∑ d : Fin 64, f ⟨64 * (sb : ℕ) + (d : ℕ), by omega⟩ := by
  rw [← Finset.sum_filter]
  symm
  refine Finset.sum_bij (fun d _ => ⟨64 * (sb : ℕ) + (d : ℕ), by omega⟩) ?_ ?_ ?_ (fun _ _ => rfl)
  · intro d _
    simp only [Finset.mem_filter, Finset.mem_univ, true_and]
    omega
  · intro a _ b _ h
    have := congrArg Fin.val h
    apply Fin.ext
    simp only at this
    omega
  · intro x hx
    simp only [Finset.mem_filter, Finset.mem_univ, true_and] at hx
    exact ⟨⟨(x : ℕ) % 64, by omega⟩, Finset.mem_univ _, Fin.ext (by simp only; omega)⟩

/-- The same of reals. -/
theorem sum_half_coe (sb : Fin 2) (f : Fin 128 → EReal) (a : ℕ → ℝ)
    (h : ∀ d : Fin 64, f ⟨64 * (sb : ℕ) + (d : ℕ), by omega⟩ = ((a d : ℝ) : EReal)) :
    ∑ x : Fin 128, (if (x : ℕ) / 64 = (sb : ℕ) then f x else 0) = ((∑ d ∈ Finset.range 64, a d : ℝ) : EReal) := by
  rw [sum_half, Finset.sum_congr rfl fun d _ => h d, ← coe_sum, Fin.sum_univ_eq_sum_range a 64]

/-- A causal sum over the rows. -/
theorem sum_causal' (n : ℕ) (r : Fin n) (f : Fin n → EReal) (a : ℕ → ℝ)
    (h : ∀ x : Fin n, f x = if (x : ℕ) ≤ (r : ℕ) then ((a x : ℝ) : EReal) else 0) :
    ∑ x, f x = ((∑ s ∈ Finset.range ((r : ℕ) + 1), a s : ℝ) : EReal) := by
  rw [Finset.sum_congr rfl fun x _ => h x, coe_sum,
    Fin.sum_univ_eq_sum_range (fun x => if x ≤ (r : ℕ) then ((a x : ℝ) : EReal) else 0) n, ← Finset.sum_filter]
  congr 1
  ext x
  simp only [Finset.mem_filter, Finset.mem_range]
  omega

/-- A sum of reals over all the rows. -/
theorem sum_all (n : ℕ) (f : Fin n → EReal) (a : ℕ → ℝ) (h : ∀ x : Fin n, f x = ((a x : ℝ) : EReal)) :
    ∑ x, f x = ((∑ s ∈ Finset.range n, a s : ℝ) : EReal) := by
  rw [Finset.sum_congr rfl fun x _ => h x, ← coe_sum, Fin.sum_univ_eq_sum_range a n]

/-- The absolute value of a real. -/
theorem absf_coe (a : ℝ) : FloatOps.absf (F := Ideal) (φ := .f32) ((a : ℝ) : EReal) = ((|a| : ℝ) : EReal) := by
  rw [Ideal.absf_def, ← EReal.coe_neg, ← coe_max]; rfl

section chunk

variable {D : Rows} {T : ℕ} {u : FVec Ideal S512x3072 .f32} {g : FVec Ideal S512x256 .f32} {ch : Fin 2}
  {C : Fin 4 → FVec Ideal S1x128x256 .f32} {N : Fin 4 → FVec Ideal S1x128 .f32} {mp : FVec Ideal S1x128 .f32}
  (R : Reads D T u g ch) (St : StateAt D T C N mp) (pr : Fin 4) (sb : Fin 2)

/-- The weight of row `s` in the output of row `j - 1` of a chunk at `T`. -/
def Rows.E (D : Rows) (h T j s : ℕ) : ℝ :=
  Real.exp (B (D.l h) (T + j) - B (D.l h) T - (B (D.l h) (T + s + 1) - B (D.l h) T) + D.i h (T + s) - M (D.l h) (D.i h) (T + j))

/-- Which head a lane of a pair belongs to. -/
theorem hd_div (d : Fin 64) : 2 * (pr : ℕ) + (64 * (sb : ℕ) + (d : ℕ)) / 64 = hd pr sb := by unfold hd; omega
/-- Which lane of its head a lane of a pair is. -/
theorem hd_mod (d : Fin 64) : (64 * (sb : ℕ) + (d : ℕ)) % 64 = (d : ℕ) := by omega

include R St in
/-- The weighted scores of a chunk, zero above the diagonal. -/
theorem wt_eq (r s : Fin 256) : wt u g ch mp pr sb (ix2 r s) = if (s : ℕ) ≤ (r : ℕ) then
    ((D.P (hd pr sb) (T + r) (T + s) * D.E (hd pr sb) T ((r : ℕ) + 1) s : ℝ) : EReal) else 0 := by
  have h8 := hd_lt pr sb
  have hl := R.hl ⟨hd pr sb, by omega⟩ h8
  have hi := R.hi ⟨hd pr sb, by omega⟩ h8
  have hm := St.hm ⟨hd pr sb, by omega⟩ h8
  pointwise [wt, colAt, rsT, own, k0_pay281]
  rw [sel_sge _ _ r.isLt s.isLt, ninf]
  simp only [sel_own]
  rw [sum_half_coe sb _ (fun d => D.q (hd pr sb) d (T + r) * D.k (hd pr sb) d (T + s)) fun d => by
    rw [R.hq, R.hk, ← EReal.coe_mul]; simp only [hd_div, hd_mod]]
  split
  · rw [ecol_eq g ch mp _ T _ _ hl hi hm, rs_eq g ch _ T _ _ hl hi, ← EReal.coe_add, Ideal.exp_coe, ← EReal.coe_mul]
    congr 1
    unfold Rows.P Rows.E
    congr 2
    simp only [← add_assoc]
    ring
  · show _ * (0 : EReal) = 0
    rw [mul_zero]

include R St in
/-- The scores times the values. -/
theorem pv_left (r : Fin 256) (y : Fin 128) : pv u g ch mp pr sb (ix2 r ⟨(y : ℕ), by omega⟩)
    = ((∑ s ∈ Finset.range ((r : ℕ) + 1), D.P (hd pr sb) (T + r) (T + s) * D.E (hd pr sb) T ((r : ℕ) + 1) s * D.v (hd pr sb) y (T + s) : ℝ) : EReal) := by
  pointwise [pv, k0_pay287]
  refine sum_causal' 256 r _ _ fun x => ?_
  rw [wt_eq R St, R.hv]
  split
  · rw [← EReal.coe_mul]
  · rw [zero_mul]

include R St in
/-- The sum of the scores, in every column of the right half. -/
theorem pv_right (r : Fin 256) (y : Fin 128) : pv u g ch mp pr sb (ix2 r ⟨128 + (y : ℕ), by omega⟩)
    = ((∑ s ∈ Finset.range ((r : ℕ) + 1), D.P (hd pr sb) (T + r) (T + s) * D.E (hd pr sb) T ((r : ℕ) + 1) s : ℝ) : EReal) := by
  pointwise [pv, k0_pay287]
  refine sum_causal' 256 r _ _ fun x => ?_
  rw [wt_eq R St]

include R St in
/-- The numerator is the closed sum over all positions so far. -/
theorem num_eq (r : Fin 256) (y : Fin 128) : num u g ch mp pr sb (C pr) (ix2 r y)
    = ((D.S (hd pr sb) (T + r + 1) (fun s => D.P (hd pr sb) (T + r) s * D.v (hd pr sb) y s) : ℝ) : EReal) := by
  have h8 := hd_lt pr sb
  have hl := R.hl ⟨hd pr sb, by omega⟩ h8
  have hi := R.hi ⟨hd pr sb, by omega⟩ h8
  have hm := St.hm ⟨hd pr sb, by omega⟩ h8
  have e : ∑ x : Fin 128, q u ch pr (ix2 r x) * C pr (ix3 0 x ⟨128 * (sb : ℕ) + (y : ℕ), by omega⟩)
      = ((D.S (hd pr sb) T (fun s => D.P (hd pr sb) (T + r) s * D.v (hd pr sb) y s) : ℝ) : EReal) := by
    simp only [St.hc, show (128 * (sb : ℕ) + (y : ℕ)) / 128 = (sb : ℕ) by omega, show (128 * (sb : ℕ) + (y : ℕ)) % 128 = (y : ℕ) by omega]
    simp only [mul_ite, mul_zero]
    rw [sum_half_coe sb _ (fun d => D.q (hd pr sb) d (T + r) * D.S (hd pr sb) T (fun t => D.k (hd pr sb) d t * D.v (hd pr sb) y t)) fun d => by
      rw [R.hq]; simp only [hd_div, hd_mod]; rw [← EReal.coe_mul]]
    congr 1
    unfold Rows.S Rows.P
    rw [S_comb]
    congr 1
    funext s
    rw [Finset.sum_mul]
    exact Finset.sum_congr rfl fun d _ => by ring
  pointwise [num, qc, colAt]
  rw [pv_left R St, wcol_eq g ch mp _ T _ _ hl hi hm, e, ← EReal.coe_mul, ← EReal.coe_add]
  congr 1
  unfold Rows.S
  rw [show T + (r : ℕ) + 1 = T + ((r : ℕ) + 1) from rfl, S_chunk]
  congr 1
  exact Finset.sum_congr rfl fun s _ => by unfold Rows.E; ring

include R St in
/-- The denominator is the closed sum over all positions so far. -/
theorem den_eq (r : Fin 256) (y : Fin 128) : den u g ch mp pr sb (N pr) (ix2 r y)
    = ((max |D.S (hd pr sb) (T + r + 1) (D.P (hd pr sb) (T + r))| (Real.exp (-M (D.l (hd pr sb)) (D.i (hd pr sb)) (T + r + 1))) : ℝ) : EReal) := by
  have h8 := hd_lt pr sb
  have hl := R.hl ⟨hd pr sb, by omega⟩ h8
  have hi := R.hi ⟨hd pr sb, by omega⟩ h8
  have hm := St.hm ⟨hd pr sb, by omega⟩ h8
  pointwise [den, qn, colAt, own]
  simp only [sel_own]
  rw [sum_half_coe sb _ (fun d => D.q (hd pr sb) d (T + r) * D.S (hd pr sb) T (D.k (hd pr sb) d)) fun d => by
      rw [R.hq, St.hn]; simp only [hd_div, hd_mod]; rw [← EReal.coe_mul]]
  rw [pv_right R St, wcol_eq g ch mp _ T _ _ hl hi hm, ncol_eq g ch mp _ T _ _ hl hi hm, ← EReal.coe_mul, ← EReal.coe_add,
    absf_coe, ← coe_max]
  congr 3
  unfold Rows.S
  rw [S_comb, show T + (r : ℕ) + 1 = T + ((r : ℕ) + 1) from rfl, S_chunk]
  congr 2
  funext s
  unfold Rows.E
  ring

include R St in
/-- One head's output of a chunk is the recurrence's. -/
theorem hh_eq (r : Fin 256) (y : Fin 128) : hh u g ch mp pr sb (C pr) (N pr) (ix2 r y) = ((D.H (hd pr sb) y (T + r) : ℝ) : EReal) := by
  pointwise [hh]
  rw [num_eq R St, den_eq R St, Ideal.div_coe (by
    have := Real.exp_pos (-M (D.l (hd pr sb)) (D.i (hd pr sb)) (T + r + 1))
    exact ne_of_gt (lt_max_of_lt_right this)), ← EReal.coe_mul]
  congr 1
  unfold Rows.H Chunk.H Rows.S
  rw [mul_one_div]

/-- The factor of the state before a chunk in the state after it. -/
def Rows.G (D : Rows) (h T : ℕ) : ℝ := Real.exp (B (D.l h) (T + 256) - B (D.l h) T + M (D.l h) (D.i h) T - M (D.l h) (D.i h) (T + 256))

include R St in
/-- The carried state's weight in the next state, in the recurrence's words. -/
theorem dc_eq (h : ℕ) (h8 : h < 8) : dcol g ch mp (ix2 0 ⟨h, by omega⟩) = ((D.G h T : ℝ) : EReal) :=
  dcol_eq g ch mp _ T _ _ (R.hl ⟨h, by omega⟩ h8) (R.hi ⟨h, by omega⟩ h8) (St.hm ⟨h, by omega⟩ h8)

include R St in
/-- A row's weight in the next state, in the recurrence's words. -/
theorem kc_eq (h : ℕ) (h8 : h < 8) (r : Fin 256) : kcol g ch mp (ix2 r ⟨h, by omega⟩) = ((D.E h T 256 r : ℝ) : EReal) :=
  kcol_eq g ch mp _ T _ _ (R.hl ⟨h, by omega⟩ h8) (R.hi ⟨h, by omega⟩ h8) (St.hm ⟨h, by omega⟩ h8) r

/-- A weighted sum after a chunk. -/
theorem S_next (D : Rows) (h T : ℕ) (f : ℕ → ℝ) :
    D.S h (T + 256) f = D.G h T * D.S h T f + ∑ s ∈ Finset.range 256, D.E h T 256 s * f (T + s) := by
  unfold Rows.S
  rw [S_chunk, add_comm]
  rfl

include R St in
/-- A pair's next matrix state: on the diagonal blocks the closed sum, elsewhere zero. -/
theorem cNew_eq (x : Fin 128) (y : Fin 256) : cNew u g ch mp pr (C pr) (ix3 0 x y) = if (x : ℕ) / 64 = (y : ℕ) / 128 then
    ((D.S (2 * (pr : ℕ) + (x : ℕ) / 64) (T + 256) (fun t => D.k (2 * (pr : ℕ) + (x : ℕ) / 64) ((x : ℕ) % 64) t
      * D.v (2 * (pr : ℕ) + (x : ℕ) / 64) ((y : ℕ) % 128) t) : ℝ) : EReal) else 0 := by
  pointwise [cNew, dAt, kw, own, colAt]
  simp only [sel_own0, sel_col0, sel_diag]
  rw [St.hc]
  by_cases hxy : (x : ℕ) / 64 = (y : ℕ) / 128
  · simp only [if_pos hxy]
    have hx2 : (x : ℕ) / 64 < 2 := by omega
    have hh : hd pr ⟨(x : ℕ) / 64, hx2⟩ = 2 * (pr : ℕ) + (x : ℕ) / 64 := rfl
    have ed := pick ((y : ℕ) / 128) (by omega) fun sb => dcol g ch mp (ix2 0 ⟨hd pr sb, by have := hd_lt pr sb; omega⟩)
    have ek : ∀ r : Fin 256, _ := fun r => pick ((x : ℕ) / 64) hx2 fun sb => kcol g ch mp (ix2 r ⟨hd pr sb, by have := hd_lt pr sb; omega⟩)
    have ev : ∀ r : Fin 256, (if h : (y : ℕ) < 128 then Tile.v u ch pr 0 (ix2 r ⟨(y : ℕ), h⟩) else Tile.v u ch pr 1 (ix2 r ⟨(y : ℕ) - 128, by omega⟩))
        = ((D.v (2 * (pr : ℕ) + (x : ℕ) / 64) ((y : ℕ) % 128) (T + r) : ℝ) : EReal) := by
      intro r
      split
      · rw [R.hv, hxy]; unfold hd
        rw [show (y : ℕ) / 128 = ((0 : Fin 2) : ℕ) by show _ = 0; omega, show (y : ℕ) % 128 = (y : ℕ) by omega]
      · rw [R.hv, hxy]; unfold hd
        rw [show (y : ℕ) / 128 = ((1 : Fin 2) : ℕ) by show _ = 1; omega, show (y : ℕ) % 128 = (y : ℕ) - 128 by omega]
    rw [ed, dc_eq R St _ (by have := hd_lt pr ⟨(y : ℕ) / 128, by omega⟩; omega)]
    rw [sum_all 256 _ (fun s => D.E (2 * (pr : ℕ) + (x : ℕ) / 64) T 256 s * (D.k (2 * (pr : ℕ) + (x : ℕ) / 64) ((x : ℕ) % 64) (T + s)
        * D.v (2 * (pr : ℕ) + (x : ℕ) / 64) ((y : ℕ) % 128) (T + s))) fun r => by
      rw [ek, ev, R.hk, kc_eq R St _ (by have := hd_lt pr ⟨(x : ℕ) / 64, hx2⟩; omega), ← EReal.coe_mul, ← EReal.coe_mul, hh]
      congr 1; ring]
    rw [← EReal.coe_mul, ← EReal.coe_add, S_next]
    congr 3
    unfold hd
    rw [hxy]
  · simp only [if_neg hxy]
    rw [mul_zero, add_zero]

include R St in
/-- A pair's next summed keys are the closed sum. -/
theorem nNew_eq (x : Fin 128) : nNew u g ch mp pr (N pr) (ix2 0 x)
    = ((D.S (2 * (pr : ℕ) + (x : ℕ) / 64) (T + 256) (D.k (2 * (pr : ℕ) + (x : ℕ) / 64) ((x : ℕ) % 64)) : ℝ) : EReal) := by
  pointwise [nNew, dAt, kw, own, colAt]
  simp only [sel_own0]
  rw [St.hn]
  have hx2 : (x : ℕ) / 64 < 2 := by omega
  have hh : hd pr ⟨(x : ℕ) / 64, hx2⟩ = 2 * (pr : ℕ) + (x : ℕ) / 64 := rfl
  have ed := pick ((x : ℕ) / 64) (by omega) fun sb => dcol g ch mp (ix2 0 ⟨hd pr sb, by have := hd_lt pr sb; omega⟩)
  have ek : ∀ r : Fin 256, _ := fun r => pick ((x : ℕ) / 64) hx2 fun sb => kcol g ch mp (ix2 r ⟨hd pr sb, by have := hd_lt pr sb; omega⟩)
  rw [ed, dc_eq R St _ (by have := hd_lt pr ⟨(x : ℕ) / 64, by omega⟩; omega)]
  rw [sum_all 256 _ (fun s => D.E (2 * (pr : ℕ) + (x : ℕ) / 64) T 256 s * D.k (2 * (pr : ℕ) + (x : ℕ) / 64) ((x : ℕ) % 64) (T + s)) fun r => by
    rw [ek, R.hk, kc_eq R St _ (by have := hd_lt pr ⟨(x : ℕ) / 64, hx2⟩; omega), ← EReal.coe_mul, hh]
    congr 1; ring]
  rw [← EReal.coe_mul, ← EReal.coe_add, S_next, hh]

include R St in
/-- The state after a chunk. -/
theorem next : StateAt D (T + 256) (fun pr => cNew u g ch mp pr (C pr)) (fun pr => nNew u g ch mp pr (N pr)) (mnew g ch mp) where
  hc pr x y := cNew_eq R St pr x y
  hn pr x := nNew_eq R St pr x
  hm h h8 := mnew_eq g ch mp h T _ _ (R.hl h h8) (R.hi h h8) (St.hm h h8)

end chunk

end Cert.TileHead

end
-- ==== Proof.RefStep.lean ====
/- One trip of the reference's loop over the reals: a chunk of 64 positions of every sequence and head at once, from the weighted
   sums before the chunk to those after it, its outputs the recurrence's. -/
module

public import proofs.«01_k».proof.Proof.RefOps
public import proofs.«01_k».proof.Proof.RefFrame
public import proofs.«01_k».proof.Proof.TileHead
public import Idealize.ShloMosaic.Lib.Tactic.CleanTypes

@[expose] public section

set_option maxRecDepth 16384

noncomputable section

namespace Cert.RefStep

open Idealize.ShloMosaic Idealize.ShloMosaic.TcCoe Idealize.ShloMosaic.StableHlo
open Idealize.SL.Sem Cert.ReferenceIdeal Cert.ReferenceIdeal.Gen Cert.ReferenceIdeal.Value Cert.RefOps
open Cert.Chunk Cert.TileGate Cert.TileHead

/-- The arrays the loop reads: a sequence's rows in chunks of 64. -/
structure Inp (D : Fin 16 → Rows) (V : Valuation τ sig (Elt Ideal)) : Prop where
  hq : ∀ (k : Fin 32) (b : Fin 16) (h : Fin 8) (j d : Fin 64),
    V (Proc.devRef .tc main_v46_0) (ix5 k b h j d) = (((D b).q h d (64 * (k : ℕ) + j) : ℝ) : EReal)
  hk : ∀ (k : Fin 32) (b : Fin 16) (h : Fin 8) (j d : Fin 64),
    V (Proc.devRef .tc main_v46_1) (ix5 k b h j d) = (((D b).k h d (64 * (k : ℕ) + j) : ℝ) : EReal)
  hv : ∀ (k : Fin 32) (b : Fin 16) (h : Fin 8) (j : Fin 64) (y : Fin 128),
    V (Proc.devRef .tc main_v46_2) (ix5 k b h j y) = (((D b).v h y (64 * (k : ℕ) + j) : ℝ) : EReal)
  hi : ∀ (k : Fin 32) (b : Fin 16) (h : Fin 8) (j : Fin 64),
    V (Proc.devRef .tc main_v46_3) (ix4 k b h j) = (((D b).i h (64 * (k : ℕ) + j) : ℝ) : EReal)
  hl : ∀ (k : Fin 32) (b : Fin 16) (h : Fin 8) (j : Fin 64),
    V (Proc.devRef .tc main_v46_4) (ix4 k b h j) = (((D b).l h (64 * (k : ℕ) + j) : ℝ) : EReal)

/-- The carried buffers before trip `k`. -/
structure At (D : Fin 16 → Rows) (k : ℕ) (V : Valuation τ sig (Elt Ideal)) : Prop where
  ctr : V (Proc.devRef .tc main_v46_5) = fun _ => BitVec.ofNat 32 k
  hc : ∀ (b : Fin 16) (h : Fin 8) (d : Fin 64) (y : Fin 128), V (Proc.devRef .tc main_v46_6) (ix4 b h d y)
    = (((D b).S h (64 * k) (fun t => (D b).k h d t * (D b).v h y t) : ℝ) : EReal)
  hn : ∀ (b : Fin 16) (h : Fin 8) (d : Fin 64), V (Proc.devRef .tc main_v46_7) (ix3 b h d)
    = (((D b).S h (64 * k) ((D b).k h d) : ℝ) : EReal)
  hm : ∀ (b : Fin 16) (h : Fin 8), V (Proc.devRef .tc main_v46_8) (ix2 b h) = ((M ((D b).l h) ((D b).i h) (64 * k) : ℝ) : EReal)
  ho : ∀ (k' : Fin 32), (k' : ℕ) < k → ∀ (b : Fin 16) (h : Fin 8) (j : Fin 64) (y : Fin 128),
    V (Proc.devRef .tc main_v46_9) (ix5 k' b h j y) = (((D b).H h y (64 * (k' : ℕ) + j) : ℝ) : EReal)

/-- The numerator of an output. -/
theorem num_eq (D : Rows) (h T y : ℕ) (j : Fin 64) (sc v q c : Fin 64 → EReal) (w : EReal)
    (hsc : ∀ s, sc s = if (s : ℕ) ≤ (j : ℕ) then ((D.P h (T + j) (T + s) * D.E h T (j + 1) s : ℝ) : EReal) else 0)
    (hv : ∀ s, v s = ((D.v h y (T + s) : ℝ) : EReal)) (hq : ∀ d, q d = ((D.q h d (T + j) : ℝ) : EReal))
    (hc : ∀ d, c d = ((D.S h T (fun t => D.k h d t * D.v h y t) : ℝ) : EReal))
    (hw : w = ((Real.exp (B (D.l h) (T + (j + 1)) - B (D.l h) T + M (D.l h) (D.i h) T - M (D.l h) (D.i h) (T + (j + 1))) : ℝ) : EReal)) :
    (∑ s, sc s * v s) + w * ∑ d, q d * c d = ((D.S h (T + j + 1) (fun s => D.P h (T + j) s * D.v h y s) : ℝ) : EReal) := by
  rw [sum_all 64 (fun d => q d * c d) (fun d => D.q h d (T + j) * D.S h T (fun t => D.k h d t * D.v h y t)) fun d => by
      rw [hq, hc, ← EReal.coe_mul]]
  rw [sum_causal' 64 j (fun s => sc s * v s) (fun s => D.P h (T + j) (T + s) * D.E h T (j + 1) s * D.v h y (T + s)) fun s => by
      rw [hsc, hv]
      split
      · rw [← EReal.coe_mul]
      · rw [zero_mul]]
  rw [hw, ← EReal.coe_mul, ← EReal.coe_add]
  congr 1
  unfold Rows.S
  rw [S_comb, show T + (j : ℕ) + 1 = T + ((j : ℕ) + 1) from rfl, S_chunk]
  congr 1
  · exact Finset.sum_congr rfl fun s _ => by unfold Rows.E; ring
  · congr 2
    funext s
    unfold Rows.P
    rw [Finset.sum_mul]
    exact Finset.sum_congr rfl fun d _ => by ring

/-- The denominator before its floor. -/
theorem den_eq (D : Rows) (h T : ℕ) (j : Fin 64) (sc q n : Fin 64 → EReal) (w : EReal)
    (hsc : ∀ s, sc s = if (s : ℕ) ≤ (j : ℕ) then ((D.P h (T + j) (T + s) * D.E h T (j + 1) s : ℝ) : EReal) else 0)
    (hq : ∀ d, q d = ((D.q h d (T + j) : ℝ) : EReal)) (hn : ∀ d, n d = ((D.S h T (D.k h d) : ℝ) : EReal))
    (hw : w = ((Real.exp (B (D.l h) (T + (j + 1)) - B (D.l h) T + M (D.l h) (D.i h) T - M (D.l h) (D.i h) (T + (j + 1))) : ℝ) : EReal)) :
    (∑ s, sc s) + w * ∑ d, q d * n d = ((D.S h (T + j + 1) (D.P h (T + j)) : ℝ) : EReal) := by
  rw [sum_all 64 (fun d => q d * n d) (fun d => D.q h d (T + j) * D.S h T (D.k h d)) fun d => by rw [hq, hn, ← EReal.coe_mul]]
  rw [sum_causal' 64 j sc (fun s => D.P h (T + j) (T + s) * D.E h T (j + 1) s) hsc]
  rw [hw, ← EReal.coe_mul, ← EReal.coe_add]
  congr 1
  unfold Rows.S
  rw [S_comb, show T + (j : ℕ) + 1 = T + ((j : ℕ) + 1) from rfl, S_chunk]
  congr 1
  exact Finset.sum_congr rfl fun s _ => by unfold Rows.E; ring

section trip

variable {D : Fin 16 → Rows} {V : Valuation τ sig (Elt Ideal)} {k : ℕ} (hk : k < 32) (I : Inp D V) (A : At D k V)
  (b : Fin 16) (h : Fin 8)

/-- The starts of the trip's slices. -/
def off5 (k : ℕ) : Fin 5 → ℕ := ![k, 0, 0, 0, 0]
/-- The start of a chunk, of four axes. -/
def off4 (k : ℕ) : Fin 4 → ℕ := ![k, 0, 0, 0]

include hk in
/-- Chunk `k` starts at `k` along the first of five axes, at zero along the others. -/
theorem start5 (a : Fin 5) : ((![fun _ => BitVec.ofNat 32 k, constantI S_ 32 0#32, constantI S_ 32 0#32, constantI S_ 32 0#32, constantI S_ 32 0#32] :
    Fin 5 → (⟨S_, .i32⟩ : BufTy).Contents (Elt Ideal)) a (Shape.Idx.first h_S_)).toInt = (off5 k a : Int) := by
  fin_cases a
  · exact toInt_small k hk
  all_goals rfl

include hk in
/-- Chunk `k` starts at `k` along the first of four axes, at zero along the others. -/
theorem start4 (a : Fin 4) : ((![fun _ => BitVec.ofNat 32 k, constantI S_ 32 0#32, constantI S_ 32 0#32, constantI S_ 32 0#32] :
    Fin 4 → (⟨S_, .i32⟩ : BufTy).Contents (Elt Ideal)) a (Shape.Idx.first h_S_)).toInt = (off4 k a : Int) := by
  fin_cases a
  · exact toInt_small k hk
  all_goals rfl

include hk I A in
/-- The queries of the trip's chunk. -/
theorem q_eq (j d : Fin 64) : res_main_while0b_v129 (F := Ideal) V (ix4 b h j d) = (((D b).q h d (64 * k + j) : ℝ) : EReal) := by
  unfold res_main_while0b_v129
  rw [A.ctr]
  clean_types
  refine Eq.trans (b := Host.dynamicSlice S1x16x8x64x64 (V (Proc.devRef .tc main_v46_0)) _ sliceFits_S32x16x8x64x64_S1x16x8x64x64 (ix5 0 b h j d)) (by
    generalize Host.dynamicSlice (α := EReal) S1x16x8x64x64 _ _ _ = X
    pointwise) ?_
  refine Eq.trans (dslice _ _ _ (off5 k) (start5 hk) (fun a => by fin_cases a <;> simp [off5, S1x16x8x64x64] <;> omega) _ (ix5 ⟨k, hk⟩ b h j d)
    (fun a => by fin_cases a <;> simp [off5])) (I.hq ⟨k, hk⟩ b h j d)

include hk I A in
/-- The keys of the trip's chunk. -/
theorem k_eq (j d : Fin 64) : res_main_while0b_v130 (F := Ideal) V (ix4 b h j d) = (((D b).k h d (64 * k + j) : ℝ) : EReal) := by
  unfold res_main_while0b_v130
  rw [A.ctr]
  clean_types
  refine Eq.trans (b := Host.dynamicSlice S1x16x8x64x64 (V (Proc.devRef .tc main_v46_1)) _ sliceFits_S32x16x8x64x64_S1x16x8x64x64 (ix5 0 b h j d)) (by
    generalize Host.dynamicSlice (α := EReal) S1x16x8x64x64 _ _ _ = X
    pointwise) ?_
  refine Eq.trans (dslice _ _ _ (off5 k) (start5 hk) (fun a => by fin_cases a <;> simp [off5, S1x16x8x64x64] <;> omega) _ (ix5 ⟨k, hk⟩ b h j d)
    (fun a => by fin_cases a <;> simp [off5])) (I.hk ⟨k, hk⟩ b h j d)

include hk I A in
/-- The values of the trip's chunk. -/
theorem v_eq (j : Fin 64) (y : Fin 128) : res_main_while0b_v131 (F := Ideal) V (ix4 b h j y) = (((D b).v h y (64 * k + j) : ℝ) : EReal) := by
  unfold res_main_while0b_v131
  rw [A.ctr]
  clean_types
  refine Eq.trans (b := Host.dynamicSlice S1x16x8x64x128 (V (Proc.devRef .tc main_v46_2)) _ sliceFits_S32x16x8x64x128_S1x16x8x64x128 (ix5 0 b h j y)) (by
    generalize Host.dynamicSlice (α := EReal) S1x16x8x64x128 _ _ _ = X
    pointwise) ?_
  refine Eq.trans (dslice _ _ _ (off5 k) (start5 hk) (fun a => by fin_cases a <;> simp [off5, S1x16x8x64x128] <;> omega) _ (ix5 ⟨k, hk⟩ b h j y)
    (fun a => by fin_cases a <;> simp [off5])) (I.hv ⟨k, hk⟩ b h j y)

include hk I A in
/-- The input gates of the trip's chunk. -/
theorem i_eq (j : Fin 64) : res_main_while0b_v132 (F := Ideal) V (ix3 b h j) = (((D b).i h (64 * k + j) : ℝ) : EReal) := by
  unfold res_main_while0b_v132
  rw [A.ctr]
  clean_types
  refine Eq.trans (b := Host.dynamicSlice S1x16x8x64 (V (Proc.devRef .tc main_v46_3)) _ sliceFits_S32x16x8x64_S1x16x8x64 (ix4 0 b h j)) (by
    generalize Host.dynamicSlice (α := EReal) S1x16x8x64 _ _ _ = X
    pointwise) ?_
  refine Eq.trans (dslice _ _ _ (off4 k) (start4 hk) (fun a => by fin_cases a <;> simp [off4, S1x16x8x64] <;> omega) _ (ix4 ⟨k, hk⟩ b h j)
    (fun a => by fin_cases a <;> simp [off4])) (I.hi ⟨k, hk⟩ b h j)

include hk I A in
/-- The summed forget gates of the trip's chunk. -/
theorem b_eq (j : Fin 64) : res_main_while0b_v136 (F := Ideal) V (ix3 b h j)
    = ((B ((D b).l h) (64 * k + j + 1) - B ((D b).l h) (64 * k) : ℝ) : EReal) := by
  unfold res_main_while0b_v136
  rw [A.ctr]
  clean_types
  refine (cumsum _ _ (fun i => by pointwise) b h j (fun s => (((D b).l h (64 * k + s) : ℝ) : EReal)) fun s => ?_).trans ?_
  · refine Eq.trans (b := Host.dynamicSlice S1x16x8x64 (V (Proc.devRef .tc main_v46_4)) _ sliceFits_S32x16x8x64_S1x16x8x64 (ix4 0 b h s)) (by
      generalize Host.dynamicSlice (α := EReal) S1x16x8x64 _ _ _ = X
      pointwise) ?_
    refine Eq.trans (dslice _ _ _ (off4 k) (start4 hk) (fun a => by fin_cases a <;> simp [off4, S1x16x8x64] <;> omega) _ (ix4 ⟨k, hk⟩ b h s)
      (fun a => by fin_cases a <;> simp [off4])) (I.hl ⟨k, hk⟩ b h s)
  · rw [← coe_sum, show 64 * k + (j : ℕ) + 1 = 64 * k + ((j : ℕ) + 1) from rfl, B_add]
    simp

include hk I A in
/-- The masked exponents. -/
theorem ld_eq (j s : Fin 64) : res_main_while0b_v145 (F := Ideal) V (ix4 b h j s) = if (s : ℕ) ≤ (j : ℕ) then
    (((B ((D b).l h) (64 * k + (j + 1)) - B ((D b).l h) (64 * k)) - (B ((D b).l h) (64 * k + s + 1) - B ((D b).l h) (64 * k))
      + (D b).i h (64 * k + s) : ℝ) : EReal) else ⊥ := by
  unfold res_main_while0b_v145
  simp only [id]
  clean_types
  pointwise
  rw [b_eq hk I A, b_eq hk I A, i_eq hk I A]
  rw [show IntOp.addi (BitVec.ofNat 32 (j : ℕ)) 0#32 = BitVec.ofNat 32 (j : ℕ) from BitVec.add_zero _]
  rw [sel_sge _ _ (by omega) (by omega)]
  split
  · rw [← EReal.coe_sub, ← EReal.coe_add]
    rfl
  · exact ninf

include hk I A in
/-- The logarithm of the carried state's weight at a position, before the stabiliser. -/
theorem li_eq (j : Fin 64) : res_main_while0b_v148 (F := Ideal) V (ix3 b h j)
    = ((B ((D b).l h) (64 * k + (j + 1)) - B ((D b).l h) (64 * k) + M ((D b).l h) ((D b).i h) (64 * k) : ℝ) : EReal) := by
  unfold res_main_while0b_v148
  clean_types
  pointwise
  rw [b_eq hk I A, A.hm, ← EReal.coe_add]
  rfl

/-- A maximum over the causal part of a chunk. -/
theorem fold_causal (j : Fin 64) (f : Fin 64 → EReal) (x : ℕ → EReal) (hf : ∀ s : Fin 64, f s = if (s : ℕ) ≤ (j : ℕ) then x s else ⊥) :
    Finset.fold max (⊥ : EReal) f Finset.univ = (Finset.range ((j : ℕ) + 1)).sup x := by
  rw [fold_sup 64 f (fun s => if s ≤ (j : ℕ) then x s else ⊥) hf]
  apply le_antisymm
  · refine Finset.sup_le fun s _ => ?_
    split
    · exact Finset.le_sup (f := x) (Finset.mem_range.2 (by omega))
    · exact bot_le
  · refine Finset.sup_le fun s hs => ?_
    have hs' := Finset.mem_range.1 hs
    refine le_trans (le_of_eq ?_) (Finset.le_sup (f := fun s => if s ≤ (j : ℕ) then x s else ⊥) (Finset.mem_range.2 (show s < 64 by omega)))
    exact (if_pos (by omega)).symm

include hk I A in
/-- The stabiliser of a position is the running maximum of all positions up to it. -/
theorem mr_eq (j : Fin 64) : res_main_while0b_v150 (F := Ideal) V (ix3 b h j)
    = ((M ((D b).l h) ((D b).i h) (64 * k + (j + 1)) : ℝ) : EReal) := by
  unfold res_main_while0b_v150
  clean_types
  pointwise
  rw [ninf, li_eq hk I A, fold_causal j _ (fun s => (((B ((D b).l h) (64 * k + (j + 1)) - B ((D b).l h) (64 * k)) - (B ((D b).l h) (64 * k + s + 1) - B ((D b).l h) (64 * k))
      + (D b).i h (64 * k + s) : ℝ) : EReal)) (fun s => ld_eq hk I A b h j s), M_row']

include hk I A in
/-- The carried state's weight at a position. -/
theorem iw_eq (j : Fin 64) : res_main_while0b_v156 (F := Ideal) V (ix3 b h j)
    = ((Real.exp (B ((D b).l h) (64 * k + (j + 1)) - B ((D b).l h) (64 * k) + M ((D b).l h) ((D b).i h) (64 * k)
      - M ((D b).l h) ((D b).i h) (64 * k + (j + 1))) : ℝ) : EReal) := by
  unfold res_main_while0b_v156
  clean_types
  pointwise
  rw [li_eq hk I A, mr_eq hk I A, ← EReal.coe_sub, Ideal.exp_coe]

include hk I A in
/-- The weighted products of queries and keys. -/
theorem sc_eq (j s : Fin 64) : res_main_while0b_v158 (F := Ideal) V (ix4 b h j s) = if (s : ℕ) ≤ (j : ℕ) then
    (((D b).P h (64 * k + j) (64 * k + s) * (D b).E h (64 * k) (j + 1) s : ℝ) : EReal) else 0 := by
  unfold res_main_while0b_v158
  clean_types
  pointwise
  rw [ld_eq hk I A, mr_eq hk I A]
  rw [sum_all 64 _ (fun d => (D b).q h d (64 * k + j) * (D b).k h d (64 * k + s)) fun d => by
    rw [q_eq hk I A, k_eq hk I A, ← EReal.coe_mul]]
  split
  · rw [← EReal.coe_sub, Ideal.exp_coe, ← EReal.coe_mul]
    rfl
  · rw [EReal.bot_sub]
    show _ * (0 : EReal) = 0
    rw [mul_zero]

include hk I A in
/-- The logarithm of a position's weight in the next state, before the stabiliser. -/
theorem lw_eq (j : Fin 64) : res_main_while0b_v181 (F := Ideal) V (ix3 b h j)
    = (((B ((D b).l h) (64 * k + 64) - B ((D b).l h) (64 * k)) - (B ((D b).l h) (64 * k + j + 1) - B ((D b).l h) (64 * k))
      + (D b).i h (64 * k + j) : ℝ) : EReal) := by
  unfold res_main_while0b_v181
  clean_types
  pointwise [res_main_while0b_v177]
  rw [b_eq hk I A, b_eq hk I A, i_eq hk I A, ← EReal.coe_sub, ← EReal.coe_add]
  rfl

include hk I A in
/-- The next carried maximum is the running maximum up to the chunk's end. -/
theorem mn_eq : res_main_while0b_v184 (F := Ideal) V (ix2 b h) = ((M ((D b).l h) ((D b).i h) (64 * k + 64) : ℝ) : EReal) := by
  unfold res_main_while0b_v184
  clean_types
  pointwise [res_main_while0b_v177]
  rw [ninf, fold_sup 64 _ (fun s => (((B ((D b).l h) (64 * k + 64) - B ((D b).l h) (64 * k)) - (B ((D b).l h) (64 * k + s + 1) - B ((D b).l h) (64 * k))
      + (D b).i h (64 * k + s) : ℝ) : EReal)) (fun s => lw_eq hk I A b h s), b_eq hk I A, A.hm, ← EReal.coe_add]
  exact (M_row' _ _ (64 * k) 64).symm

include hk I A in
/-- A position's weight in the next state. -/
theorem ws_eq (j : Fin 64) : res_main_while0b_v188 (F := Ideal) V (ix3 b h j) = (((D b).E h (64 * k) 64 j : ℝ) : EReal) := by
  unfold res_main_while0b_v188
  clean_types
  pointwise
  rw [lw_eq hk I A, mn_eq hk I A, ← EReal.coe_sub, Ideal.exp_coe]
  rfl

/-- The factor of the state before a trip in the state after it. -/
def G64 (D : Rows) (h T : ℕ) : ℝ := Real.exp (B (D.l h) (T + 64) - B (D.l h) T + M (D.l h) (D.i h) T - M (D.l h) (D.i h) (T + 64))

include hk I A in
/-- The carried state's weight in the next state. -/
theorem dec_eq : res_main_while0b_v191 (F := Ideal) V (ix2 b h) = ((G64 (D b) h (64 * k) : ℝ) : EReal) := by
  unfold res_main_while0b_v191
  clean_types
  pointwise [res_main_while0b_v177]
  rw [mn_eq hk I A, b_eq hk I A, A.hm, ← EReal.coe_add, ← EReal.coe_sub, Ideal.exp_coe]
  rfl

/-- A weighted sum after a trip. -/
theorem S_next64 (D : Rows) (h T : ℕ) (f : ℕ → ℝ) :
    D.S h (T + 64) f = G64 D h T * D.S h T f + ∑ s ∈ Finset.range 64, D.E h T 64 s * f (T + s) := by
  unfold Rows.S
  rw [S_chunk, add_comm]
  rfl

include hk I A in
/-- The next matrix state is the closed sum up to the chunk's end. -/
theorem c_next (d : Fin 64) (y : Fin 128) : step_main_v46_6 (F := Ideal) V (ix4 b h d y)
    = (((D b).S h (64 * k + 64) (fun t => (D b).k h d t * (D b).v h y t) : ℝ) : EReal) := by
  unfold step_main_v46_6
  simp only [id]
  clean_types
  pointwise
  rw [dec_eq hk I A, A.hc, S_next64]
  rw [sum_all 64 _ (fun s => (D b).E h (64 * k) 64 s * ((D b).k h d (64 * k + s) * (D b).v h y (64 * k + s))) fun s => by
    rw [ws_eq hk I A, k_eq hk I A, v_eq hk I A, ← EReal.coe_mul, ← EReal.coe_mul, mul_assoc]]
  rw [← EReal.coe_mul, ← EReal.coe_add]

include hk I A in
/-- The next summed keys are the closed sum up to the chunk's end. -/
theorem n_next (d : Fin 64) : step_main_v46_7 (F := Ideal) V (ix3 b h d)
    = (((D b).S h (64 * k + 64) ((D b).k h d) : ℝ) : EReal) := by
  unfold step_main_v46_7
  simp only [id]
  clean_types
  pointwise
  rw [dec_eq hk I A, A.hn, S_next64]
  rw [sum_all 64 _ (fun s => (D b).E h (64 * k) 64 s * (D b).k h d (64 * k + s)) fun s => by
    rw [ws_eq hk I A, k_eq hk I A, ← EReal.coe_mul]]
  rw [← EReal.coe_mul, ← EReal.coe_add]

include hk I A in
/-- What the trip writes of the output array. -/
theorem o_in (j : Fin 64) (y : Fin 128) : step_main_v46_9 (F := Ideal) V (ix5 ⟨k, hk⟩ b h j y)
    = (((D b).H h y (64 * k + j) : ℝ) : EReal) := by
  unfold step_main_v46_9
  simp only [id]
  rw [A.ctr]
  clean_types
  refine (dupdate_in _ _ _ _ (off5 k) (start5 hk) (fun a => by fin_cases a <;> simp [off5, S1x16x8x64x128] <;> omega) _ (ix5 0 b h j y)
    (fun a => by fin_cases a <;> simp [off5])).trans ?_
  pointwise
  rw [mr_eq hk I A, num_eq (D b) h (64 * k) y j (hsc := fun s => sc_eq hk I A b h j s) (hv := fun s => v_eq hk I A b h s y)
    (hq := fun d => q_eq hk I A b h j d) (hc := fun d => A.hc b h d y) (hw := iw_eq hk I A b h j),
    den_eq (D b) h (64 * k) j (hsc := fun s => sc_eq hk I A b h j s)
    (hq := fun d => q_eq hk I A b h j d) (hn := fun d => A.hn b h d) (hw := iw_eq hk I A b h j), ← EReal.coe_neg, Ideal.exp_coe]
  rw [absf_coe, ← coe_max, Ideal.div_coe (by
    have := Real.exp_pos (-M ((D b).l h) ((D b).i h) (64 * k + (j + 1)))
    exact ne_of_gt (lt_max_of_lt_right this)), ← EReal.coe_mul]
  congr 1
  unfold Rows.H Chunk.H Rows.S
  rw [mul_one_div]
  rfl

include hk A in
/-- The rest of the output array stays. -/
theorem o_out (k' : Fin 32) (hk' : (k' : ℕ) < k) (j : Fin 64) (y : Fin 128) : step_main_v46_9 (F := Ideal) V (ix5 k' b h j y)
    = V (Proc.devRef .tc main_v46_9) (ix5 k' b h j y) := by
  unfold step_main_v46_9
  simp only [id]
  rw [A.ctr]
  clean_types
  exact dupdate_out _ _ _ _ (off5 k) (start5 hk) (fun a => by fin_cases a <;> simp [off5, S1x16x8x64x128] <;> omega) _ 0 (.inl hk')

include hk I A in
/-- One trip. -/
theorem trip : At D (k + 1) (STEP (F := Ideal) V) where
  ctr := by
    rw [STEP_main_v46_5]
    unfold step_main_v46_5
    rw [A.ctr]
    funext x
    exact (BitVec.ofNat_add k 1).symm
  hc b h d y := by rw [STEP_main_v46_6]; exact c_next hk I A b h d y
  hn b h d := by rw [STEP_main_v46_7]; exact n_next hk I A b h d
  hm b h := by rw [STEP_main_v46_8]; exact mn_eq hk I A b h
  ho k' hk' b h j y := by
    rw [STEP_main_v46_9]
    by_cases e : (k' : ℕ) = k
    · have : k' = ⟨k, hk⟩ := Fin.ext e
      subst this
      exact o_in hk I A b h j y
    · exact (o_out hk A b h k' (by omega) j y).trans (A.ho k' (by omega) b h j y)

include I in
/-- The trip leaves what the loop reads as it was. -/
theorem inp_step : Inp D (STEP (F := Ideal) V) where
  hq k b h j d := by rw [STEP_main_v46_0]; exact I.hq k b h j d
  hk k b h j d := by rw [STEP_main_v46_1]; exact I.hk k b h j d
  hv k b h j d := by rw [STEP_main_v46_2]; exact I.hv k b h j d
  hi k b h j := by rw [STEP_main_v46_3]; exact I.hi k b h j
  hl k b h j := by rw [STEP_main_v46_4]; exact I.hl k b h j

end trip

/-- All the trips. -/
theorem trips {D : Fin 16 → Rows} {V : Valuation τ sig (Elt Ideal)} (I : Inp D V) (A : At D 0 V) :
    ∀ n, n ≤ 32 → Inp D ((STEP (F := Ideal))^[n] V) ∧ At D n ((STEP (F := Ideal))^[n] V)
  | 0, _ => ⟨I, A⟩
  | n + 1, hn => by
    have ⟨I', A'⟩ := trips I A n (by omega)
    rw [Function.iterate_succ_apply']
    exact ⟨inp_step I', trip (by omega) I' A'⟩

end Cert.RefStep

end
-- ==== Proof.Spec.lean ====
/- The layer over the extended reals, at one sequence and position at a time: the normed row, its projections, the recurrence's
   inputs, and everything after the recurrence. Both programs are compared with it. -/
module

public import proofs.«01_k».proof.Proof.TileHead

@[expose] public section

set_option maxRecDepth 16384

noncomputable section

namespace Cert.Spec

open Idealize.ShloMosaic Cert.Chunk Cert.TileHead

/-- The number a norm adds to a mean of squares. -/
def eps : EReal := Ideal.ofBits .f32 0x358637BD#32
/-- The numbers of entries the two norms divide by. -/
def c1024 : EReal := Ideal.ofBits .f32 0x44800000#32
/-- The length of a head, 128. -/
def c128 : EReal := Ideal.ofBits .f32 0x43000000#32

/-- A row divided by the root of its mean square, times a gain. -/
def rms {n : ℕ} (k : EReal) (x g : Fin n → EReal) (i : Fin n) : EReal :=
  x i * Ideal.rsqrt (Ideal.div (∑ j, x j * x j) k + eps) * g i

/-- The arguments the layer reads. -/
structure Args where
  x : Fin 16 → Fin 2048 → Fin 1024 → EReal
  g1 : Fin 1024 → EReal
  g2 : Fin 1024 → EReal
  g3 : Fin 1024 → EReal
  g4 : Fin 1024 → EReal
  w : Fin 1024 → Fin 3088 → EReal
  b : Fin 3088 → EReal
  hg : Fin 1024 → EReal
  wo : Fin 1024 → Fin 1024 → EReal
  wg : Fin 1024 → Fin 2816 → EReal
  wu : Fin 1024 → Fin 2816 → EReal
  wd : Fin 2816 → Fin 1024 → EReal

variable (A : Args)

/-- The projections of a position. -/
def Args.u (b : Fin 16) (t : Fin 2048) (e : Fin 3088) : EReal := (∑ d, rms c1024 (A.x b t) A.g1 d * A.w d e) + A.b e

/-- The same as real numbers, zero outside the array. -/
def Args.ur (b : Fin 16) (t e : ℕ) : ℝ := if h : t < 2048 ∧ e < 3088 then (A.u b ⟨t, h.1⟩ ⟨e, h.2⟩).toReal else 0

/-- The logarithm of a sigmoid. -/
def lsig (f : ℝ) : ℝ := min f 0 - Real.log (1 + Real.exp (-|f|))

/-- What the recurrence of a sequence reads. -/
def Args.D (b : Fin 16) : Rows where
  q h d t := A.ur b t (64 * h + d)
  k h d t := A.ur b t (512 + (64 * h + d)) * (1 / 8)
  v h y t := A.ur b t (1024 + (128 * h + y))
  i h t := A.ur b t (3072 + h)
  l h t := lsig (A.ur b t (3080 + h))

/-- The recurrence's output for head `h`. -/
def Args.h (b : Fin 16) (t : Fin 2048) (h : ℕ) (y : Fin 128) : EReal := (((A.D b).H h y t : ℝ) : EReal)

/-- The heads' outputs, normed and gated. -/
def Args.z (b : Fin 16) (t : Fin 2048) (j : Fin 1024) : EReal :=
  Ideal.logistic (A.u b t ⟨2048 + j, by omega⟩)
    * (rms c128 (A.h b t (j / 128)) (fun _ => A.hg j) ⟨j % 128, by omega⟩)

/-- The mixer's output. -/
def Args.mo (b : Fin 16) (t : Fin 2048) (d : Fin 1024) : EReal := ∑ e, A.z b t e * A.wo e d
/-- The rows between the two sublayers. -/
def Args.x1 (b : Fin 16) (t : Fin 2048) (d : Fin 1024) : EReal := A.x b t d + rms c1024 (A.mo b t) A.g2 d

/-- The feed-forward of a row. -/
def act (g3 : Fin 1024 → EReal) (wg wu : Fin 1024 → Fin 2816 → EReal) (x : Fin 1024 → EReal) (f : Fin 2816) : EReal :=
  (∑ d, rms c1024 x g3 d * wg d f) * Ideal.logistic (∑ d, rms c1024 x g3 d * wg d f) * ∑ d, rms c1024 x g3 d * wu d f
/-- The down projection of the gated product. -/
def down (g3 : Fin 1024 → EReal) (wg wu : Fin 1024 → Fin 2816 → EReal) (wd : Fin 2816 → Fin 1024 → EReal) (x : Fin 1024 → EReal)
    (d : Fin 1024) : EReal := ∑ f, act g3 wg wu x f * wd f d
/-- A row after the feed-forward's residual sum. -/
def ff (g3 g4 : Fin 1024 → EReal) (wg wu : Fin 1024 → Fin 2816 → EReal) (wd : Fin 2816 → Fin 1024 → EReal) (x : Fin 1024 → EReal)
    (d : Fin 1024) : EReal := x d + rms c1024 (down g3 wg wu wd x) g4 d

/-- The layer's output. -/
def Args.out (b : Fin 16) (t : Fin 2048) (d : Fin 1024) : EReal := ff A.g3 A.g4 A.wg A.wu A.wd (A.x1 b t) d

/-! ## What is real -/

/-- Neither infinity. -/
def Re (x : EReal) : Prop := ∃ r : ℝ, x = r

/-- A number that is neither infinity is real. -/
theorem Re.of {x : EReal} (h : x ≠ ⊤) (h' : x ≠ ⊥) : Re x := ⟨x.toReal, (EReal.coe_toReal h h').symm⟩
/-- A product of reals is real. -/
theorem Re.mul {x y : EReal} : Re x → Re y → Re (x * y) := fun ⟨a, ha⟩ ⟨b, hb⟩ => ⟨a * b, by rw [ha, hb, EReal.coe_mul]⟩
/-- A sum of two reals is real. -/
theorem Re.add {x y : EReal} : Re x → Re y → Re (x + y) := fun ⟨a, ha⟩ ⟨b, hb⟩ => ⟨a + b, by rw [ha, hb, EReal.coe_add]⟩
/-- A sum of reals is real. -/
theorem Re.sum {n : ℕ} {f : Fin n → EReal} (h : ∀ i, Re (f i)) : Re (∑ i, f i) :=
  ⟨∑ i, (h i).choose, by rw [coe_sum]; exact Finset.sum_congr rfl fun i _ => (h i).choose_spec⟩

/-- The norm's small constant is a positive real. -/
theorem eps_pos : ∃ e : ℝ, 0 < e ∧ eps = e := by
  refine ⟨_, ?_, by unfold eps; simp [Ideal.ofBits, Ideal.ieee, -EReal.coe_mul]; rfl⟩
  norm_num

/-- The row's length is the real 1024. -/
theorem c1024_eq : c1024 = ((1024 : ℝ) : EReal) := by
  unfold c1024
  simp [Ideal.ofBits, Ideal.ieee, -EReal.coe_mul]
  norm_num

/-- A square is not negative, of an infinity neither. -/
theorem sq_nonneg (x : EReal) : 0 ≤ x * x := by
  induction x with
  | bot => simp
  | top => simp
  | coe r => rw [← EReal.coe_mul]; exact_mod_cast mul_self_nonneg r

/-- A normed row with real gains is real, whatever the row. -/
theorem rms_re {n : ℕ} (x g : Fin n → EReal) (i : Fin n) (hg : Re (g i)) : Re (rms c1024 x g i) := by
  obtain ⟨e, he, hE⟩ := eps_pos
  have h0 : ∀ j, 0 ≤ x j * x j := fun j => sq_nonneg _
  have hs : 0 ≤ ∑ j, x j * x j := Finset.sum_nonneg fun j _ => h0 j
  refine Re.mul ?_ hg
  rw [c1024_eq, Ideal.div_coe (by norm_num), hE]
  by_cases ht : (∑ j, x j * x j) = ⊤
  · rw [ht, EReal.top_mul_coe_of_pos (by norm_num), EReal.top_add_coe]
    exact ⟨0, by show x i * (0 : EReal) = _; rw [mul_zero]; rfl⟩
  · have hx : Re (x i) := by
      have hi : x i * x i ≠ ⊤ := fun h => ht (top_le_iff.1 (h ▸ Finset.single_le_sum (f := fun j => x j * x j) (fun j _ => h0 j) (Finset.mem_univ i)))
      refine Re.of ?_ ?_
      · intro h; rw [h] at hi; exact hi (by simp)
      · intro h; rw [h] at hi; exact hi (by simp)
    refine hx.mul ?_
    obtain ⟨s, hs'⟩ := Re.of ht (fun h => by rw [h] at hs; exact absurd hs (by simp))
    rw [hs'] at hs ⊢
    have hs0 : 0 ≤ s := by exact_mod_cast hs
    have hp : 0 < s * (1 / 1024) + e := by positivity
    rw [← EReal.coe_mul, ← EReal.coe_add]
    refine ⟨(Real.sqrt (s * (1 / 1024) + e))⁻¹, ?_⟩
    show (if s * (1 / 1024) + e < 0 then ⊥ else if s * (1 / 1024) + e = 0 then ⊤ else (((Real.sqrt (s * (1 / 1024) + e))⁻¹ : ℝ) : EReal)) = _
    rw [if_neg (not_lt.2 hp.le), if_neg hp.ne']

/-- The arguments whose finiteness the claim asks. -/
structure Args.Ok : Prop where
  g1 : ∀ d, Re (A.g1 d)
  w : ∀ d e, Re (A.w d e)
  b : ∀ e, Re (A.b e)

variable {A}

/-- The projections are real. -/
theorem Args.Ok.u_re (h : A.Ok) (b : Fin 16) (t : Fin 2048) (e : Fin 3088) : Re (A.u b t e) :=
  (Re.sum fun d => (rms_re _ _ _ (h.g1 d)).mul (h.w d e)).add (h.b e)

/-- The projections are the real ones. -/
theorem Args.Ok.u_eq (h : A.Ok) (b : Fin 16) (t : Fin 2048) (e : Fin 3088) : A.u b t e = ((A.ur b t e : ℝ) : EReal) := by
  obtain ⟨r, hr⟩ := h.u_re b t e
  unfold Args.ur
  rw [dif_pos ⟨t.2, e.2⟩]
  show A.u b t e = (((A.u b t e).toReal : ℝ) : EReal)
  rw [hr, EReal.toReal_coe]

/-! ## The logarithm of a sigmoid, as the two programs write it -/

/-- `log (1 + exp a)` of a real. -/
theorem log1p_exp (a : ℝ) : Ideal.log1p (Ideal.exp ((a : ℝ) : EReal)) = ((Real.log (1 + Real.exp a) : ℝ) : EReal) := by
  unfold Ideal.log1p
  rw [Ideal.exp_coe, ← EReal.coe_one, ← EReal.coe_add]
  show (if 1 + Real.exp a ≤ 0 then ⊥ else ((Real.log (1 + Real.exp a) : ℝ) : EReal)) = _
  rw [if_neg (not_le.2 (by positivity))]

/-- The minimum of two reals, as extended reals. -/
theorem coe_min (a b : ℝ) : ((min a b : ℝ) : EReal) = min (a : EReal) b := EReal.coe_strictMono.monotone.map_min

/-- The logarithm of the sigmoid as the kernel writes it. -/
theorem lsig_min (f : ℝ) : min ((f : ℝ) : EReal) 0 - Ideal.log1p (Ideal.exp (0 - FloatOps.absf (F := Ideal) (φ := .f32) ((f : ℝ) : EReal)))
    = ((lsig f : ℝ) : EReal) := by
  rw [absf_coe, zero_sub, ← EReal.coe_neg, log1p_exp, ← EReal.coe_zero, ← coe_min, ← EReal.coe_sub]
  rfl

/-- The logarithm of the sigmoid as the reference writes it. -/
theorem lsig_max (f : ℝ) : -(max (-((f : ℝ) : EReal)) 0 + Ideal.log1p (Ideal.exp (-FloatOps.absf (F := Ideal) (φ := .f32) (-((f : ℝ) : EReal)))))
    = ((lsig f : ℝ) : EReal) := by
  rw [← EReal.coe_neg, absf_coe, ← EReal.coe_neg, log1p_exp, ← EReal.coe_zero, ← coe_max, ← EReal.coe_add, ← EReal.coe_neg]
  congr 1
  unfold lsig
  rw [abs_neg, neg_add, ← min_neg_neg, neg_neg, neg_zero]
  rfl

end Cert.Spec

end
-- ==== Proof.RefEntry.lean ====
/- What the reference holds when its loop begins, over the values of its arguments. -/
module

public import proofs.«01_k».proof.Proof.RefStep
public import proofs.«01_k».proof.Proof.Spec
public import Idealize.ShloMosaic.Lib.StableHlo.ReadAt

@[expose] public section

set_option maxRecDepth 16384

noncomputable section

namespace Cert.RefEntry

open Idealize.ShloMosaic Idealize.ShloMosaic.TcCoe Idealize.ShloMosaic.StableHlo
open Idealize.SL.Sem Cert.ReferenceIdeal Cert.ReferenceIdeal.Gen Cert.ReferenceIdeal.Value Cert.Spec Cert.Chunk

variable (m : (ℓ : Loc nD τ sig) → Buf (Elt Ideal) ℓ) (c : Dev nD)

/-- The arguments as the layer reads them. -/
def args : Args where
  x b t d := m (c, Proc.devRef .tc main_arg0) (ix3 b t d)
  g1 d := m (c, Proc.devRef .tc main_arg1) (ix2 1 d)
  g2 d := m (c, Proc.devRef .tc main_arg2) (ix2 1 d)
  g3 d := m (c, Proc.devRef .tc main_arg3) (ix2 1 d)
  g4 d := m (c, Proc.devRef .tc main_arg4) (ix2 1 d)
  w d e := m (c, Proc.devRef .tc main_arg5) (ix3 0 d e)
  b e := m (c, Proc.devRef .tc main_arg6) (ix2 0 e)
  hg j := m (c, Proc.devRef .tc main_arg7) (ix2 0 j)
  wo e d := m (c, Proc.devRef .tc main_arg8) (ix3 0 e d)
  wg d f := m (c, Proc.devRef .tc main_arg9) (ix3 1 d f)
  wu d f := m (c, Proc.devRef .tc main_arg10) (ix3 1 d f)
  wd f d := m (c, Proc.devRef .tc main_arg11) (ix3 1 f d)

/-- The projections before the loop, entry by entry. -/
theorem u_in (b : Fin 16) (t : Fin 2048) (e : Fin 3088) :
    entryContents preI m c (Proc.devRef .tc main_v22) (ix3 b t e) = (args m c).u b t e := by
  simp only [entryContents, afterL_cons, afterL_nil]
  after_reads_at
  rfl

/-- The queries by chunks: entry `j` of chunk `k` is position `64 k + j`. -/
theorem q_at (k : Fin 32) (b : Fin 16) (h : Fin 8) (j d : Fin 64) (t : Fin 2048) (ht : (t : ℕ) = 64 * k + j)
    (e : Fin 3088) (he : (e : ℕ) = 64 * h + d) :
    entryContents preI m c (Proc.devRef .tc main_v46_0) (ix5 k b h j d) = (args m c).u b t e := by
  have e1 : t = ⟨k * 64 + j, by omega⟩ := Fin.ext (by simp only; omega)
  have e2 : e = ⟨h * 64 + d, by omega⟩ := Fin.ext (by simp only; omega)
  rw [e1, e2]
  simp only [entryContents, afterL_cons, afterL_nil]
  after_reads_simp
  simp only [id]
  try simp -implicitDefEqProofs only [StableHlo.TRef.toBuf, StableHlo.TRef.ofBuf, cast_cast, cast_eq]
  clean_types
  pointwise
  rfl

/-- The keys by chunks, times their scale, in the same order. -/
theorem k_at (k : Fin 32) (b : Fin 16) (h : Fin 8) (j d : Fin 64) (t : Fin 2048) (ht : (t : ℕ) = 64 * k + j)
    (e : Fin 3088) (he : (e : ℕ) = 512 + (64 * h + d)) :
    entryContents preI m c (Proc.devRef .tc main_v46_1) (ix5 k b h j d) = (args m c).u b t e * Ideal.ofBits .f32 0x3E000000#32 := by
  have e1 : t = ⟨k * 64 + j, by omega⟩ := Fin.ext (by simp only; omega)
  have e2 : e = ⟨512 + (h * 64 + d), by omega⟩ := Fin.ext (by simp only; omega)
  rw [e1, e2]
  simp only [entryContents, afterL_cons, afterL_nil]
  after_reads_simp
  simp only [id]
  try simp -implicitDefEqProofs only [StableHlo.TRef.toBuf, StableHlo.TRef.ofBuf, cast_cast, cast_eq]
  clean_types
  pointwise
  rfl

/-- The values by chunks, in the same order. -/
theorem v_at (k : Fin 32) (b : Fin 16) (h : Fin 8) (j : Fin 64) (y : Fin 128) (t : Fin 2048) (ht : (t : ℕ) = 64 * k + j)
    (e : Fin 3088) (he : (e : ℕ) = 1024 + (128 * h + y)) :
    entryContents preI m c (Proc.devRef .tc main_v46_2) (ix5 k b h j y) = (args m c).u b t e := by
  have e1 : t = ⟨k * 64 + j, by omega⟩ := Fin.ext (by simp only; omega)
  have e2 : e = ⟨1024 + (h * 128 + y), by omega⟩ := Fin.ext (by simp only; omega)
  rw [e1, e2]
  simp only [entryContents, afterL_cons, afterL_nil]
  after_reads_simp
  simp only [id]
  try simp -implicitDefEqProofs only [StableHlo.TRef.toBuf, StableHlo.TRef.ofBuf, cast_cast, cast_eq]
  clean_types
  pointwise
  rfl

/-- The input gates by chunks, in the same order. -/
theorem i_at (k : Fin 32) (b : Fin 16) (h : Fin 8) (j : Fin 64) (t : Fin 2048) (ht : (t : ℕ) = 64 * k + j)
    (e : Fin 3088) (he : (e : ℕ) = 3072 + h) :
    entryContents preI m c (Proc.devRef .tc main_v46_3) (ix4 k b h j) = (args m c).u b t e := by
  have e1 : t = ⟨k * 64 + j, by omega⟩ := Fin.ext (by simp only; omega)
  have e2 : e = ⟨3072 + h, by omega⟩ := Fin.ext (by simp only; omega)
  rw [e1, e2]
  simp only [entryContents, afterL_cons, afterL_nil]
  after_reads_simp
  simp only [id]
  try simp -implicitDefEqProofs only [StableHlo.TRef.toBuf, StableHlo.TRef.ofBuf, cast_cast, cast_eq]
  clean_types
  pointwise
  rfl

/-- The logarithms of the forget gates. -/
theorem l_at (k : Fin 32) (b : Fin 16) (h : Fin 8) (j : Fin 64) (t : Fin 2048) (ht : (t : ℕ) = 64 * k + j)
    (e : Fin 3088) (he : (e : ℕ) = 3080 + h) :
    entryContents preI m c (Proc.devRef .tc main_v46_4) (ix4 k b h j) =
      -(max (-(args m c).u b t e) 0 + Ideal.log1p (Ideal.exp (-FloatOps.absf (F := Ideal) (φ := .f32) (-(args m c).u b t e)))) := by
  have e1 : t = ⟨k * 64 + j, by omega⟩ := Fin.ext (by simp only; omega)
  have e2 : e = ⟨3080 + h, by omega⟩ := Fin.ext (by simp only; omega)
  rw [e1, e2]
  simp only [entryContents, afterL_cons, afterL_nil]
  after_reads_simp
  simp only [id]
  try simp -implicitDefEqProofs only [StableHlo.TRef.toBuf, StableHlo.TRef.ofBuf, cast_cast, cast_eq]
  clean_types
  pointwise
  rw [if_neg (fun h => h rfl)]
  rfl

/-- The scale of the keys is one eighth. -/
theorem eighth : Ideal.ofBits .f32 0x3E000000#32 = ((1 / 8 : ℝ) : EReal) := by
  simp [Ideal.ofBits, Ideal.ieee, -EReal.coe_mul]
  norm_num

variable (hA : (args m c).Ok)

include hA in
/-- The loop reads the recurrence's inputs. -/
theorem inp : RefStep.Inp (args m c).D (entryContents preI m c) where
  hq k b h j d := by
    rw [q_at m c k b h j d ⟨64 * k + j, by omega⟩ rfl ⟨64 * h + d, by omega⟩ rfl, hA.u_eq]
    rfl
  hk k b h j d := by
    rw [k_at m c k b h j d ⟨64 * k + j, by omega⟩ rfl ⟨512 + (64 * h + d), by omega⟩ rfl, hA.u_eq, eighth, ← EReal.coe_mul]
    rfl
  hv k b h j y := by
    rw [v_at m c k b h j y ⟨64 * k + j, by omega⟩ rfl ⟨1024 + (128 * h + y), by omega⟩ rfl, hA.u_eq]
    rfl
  hi k b h j := by
    rw [i_at m c k b h j ⟨64 * k + j, by omega⟩ rfl ⟨3072 + h, by omega⟩ rfl, hA.u_eq]
    rfl
  hl k b h j := by
    rw [l_at m c k b h j ⟨64 * k + j, by omega⟩ rfl ⟨3080 + h, by omega⟩ rfl, hA.u_eq, lsig_max]
    rfl

/-- The loop starts from zeros. -/
theorem at0 : RefStep.At (args m c).D 0 (entryContents preI m c) where
  ctr := ctr_entry m c
  hc b h d y := by
    simp only [entryContents, afterL_cons, afterL_nil]
    after_reads_simp
    simp only [id]
    clean_types
    pointwise
    exact (EReal.coe_zero.symm.trans (congrArg _ (S_zero ..).symm))
  hn b h d := by
    simp only [entryContents, afterL_cons, afterL_nil]
    after_reads_simp
    simp only [id]
    clean_types
    pointwise
    exact (EReal.coe_zero.symm.trans (congrArg _ (S_zero ..).symm))
  hm b h := by
    simp only [entryContents, afterL_cons, afterL_nil]
    after_reads_simp
    simp only [id]
    clean_types
    pointwise
    exact EReal.coe_zero.symm
  ho k' hk' := absurd hk' (Nat.not_lt_zero _)

include hA in
/-- What the loop leaves in its output array. -/
theorem loop_out (k : Fin 32) (b : Fin 16) (h : Fin 8) (j : Fin 64) (y : Fin 128) :
    atK m 32 c (Proc.devRef .tc main_v46_9) (ix5 k b h j y) = ((((args m c).D b).H h y (64 * k + j) : ℝ) : EReal) := by
  rw [atK_agree m c 32 main_v46_9 (by decide)]
  exact (RefStep.trips (inp m c hA) (at0 m c) 32 le_rfl).2.ho k k.2 b h j y

end Cert.RefEntry

end
-- ==== Proof.RefPost.lean ====
/- What the reference computes after its loop: the heads' norms and gates, the output projection, the feed-forward and the norms
   around them, from the arrays the operations read. -/
module

public import proofs.«01_k».proof.Proof.RefEntry

@[expose] public section

set_option maxRecDepth 16384

noncomputable section

namespace Cert.RefPost

open Idealize.ShloMosaic Idealize.ShloMosaic.TcCoe Idealize.ShloMosaic.StableHlo
open Idealize.SL.Sem Cert.ReferenceIdeal Cert.ReferenceIdeal.Gen Cert.ReferenceIdeal.Value Cert.Spec

/-- A line of operations cut in two. -/
theorem after_cut (n : ℕ) (l : List (HloOp τ sig (Elt Ideal))) (V : Valuation τ sig (Elt Ideal)) :
    after l V = after (l.drop n) (after (l.take n) V) := by
  induction n generalizing l V with
  | zero => rfl
  | succ n ih => cases l with
    | nil => rfl
    | cons op l => exact ih l _

variable (X : Valuation τ sig (Elt Ideal)) (A : Args)

/-- The gated heads. -/
theorem z_at (hO : ∀ k b h j y, X (Proc.devRef .tc main_v46_9) (ix5 k b h j y) = ((((A.D b).H h y (64 * (k : Fin 32) + (j : Fin 64)) : ℝ)) : EReal))
    (h17 : ∀ j, X (Proc.devRef .tc main_v17) (ix1 j) = A.hg j)
    (h26 : ∀ b t j, X (Proc.devRef .tc main_v26) (ix3 b t j) = A.u b t ⟨2048 + j, by omega⟩) (b : Fin 16) (t : Fin 2048) (j : Fin 1024) :
    after (hostOps0_3.take 28) X (Proc.devRef .tc main_v69) (ix3 b t j) = A.z b t j := by
  after_reads_at
  simp only [hO, h17, h26, Nat.div_add_mod]
  rfl

/-- The rows between the sublayers. -/
theorem x1_at (z : Fin 16 → Fin 2048 → Fin 1024 → EReal) (hz : ∀ b t j, X (Proc.devRef .tc main_v69) (ix3 b t j) = z b t j)
    (h18 : ∀ e d, X (Proc.devRef .tc main_v18) (ix2 e d) = A.wo e d)
    (h0 : ∀ b t d, X (Proc.devRef .tc main_arg0) (ix3 b t d) = A.x b t d) (h2 : ∀ d, X (Proc.devRef .tc main_arg2) (ix2 1 d) = A.g2 d)
    (b : Fin 16) (t : Fin 2048) (d : Fin 1024) :
    after ((hostOps0_3.drop 28).take 20) X (Proc.devRef .tc main_v86) (ix3 b t d)
      = A.x b t d + rms c1024 (fun d => ∑ e, z b t e * A.wo e d) A.g2 d := by
  after_reads_at
  simp only [hz, h18, h0, h2]
  rfl

/-- The gate projection of the feed-forward, entry by entry. -/
theorem gate_at (x : Fin 16 → Fin 2048 → Fin 1024 → EReal) (hx : ∀ b t j, X (Proc.devRef .tc main_v86) (ix3 b t j) = x b t j)
    (h3 : ∀ d, X (Proc.devRef .tc main_arg3) (ix2 1 d) = A.g3 d) (h9 : ∀ d f, X (Proc.devRef .tc main_arg9) (ix3 1 d f) = A.wg d f)
    (b : Fin 16) (t : Fin 2048) (f : Fin 2816) :
    after ((hostOps0_3.drop 28).drop 20) X (Proc.devRef .tc main_v108) (ix3 b t f) = ∑ d, rms c1024 (x b t) A.g3 d * A.wg d f := by
  after_reads_at
  simp only [hx, h3, h9]
  rfl

/-- The up projection of the feed-forward, entry by entry. -/
theorem up_at (x : Fin 16 → Fin 2048 → Fin 1024 → EReal) (hx : ∀ b t j, X (Proc.devRef .tc main_v86) (ix3 b t j) = x b t j)
    (h3 : ∀ d, X (Proc.devRef .tc main_arg3) (ix2 1 d) = A.g3 d) (h10 : ∀ d f, X (Proc.devRef .tc main_arg10) (ix3 1 d f) = A.wu d f)
    (b : Fin 16) (t : Fin 2048) (f : Fin 2816) :
    after ((hostOps0_3.drop 28).drop 20) X (Proc.devRef .tc main_v109) (ix3 b t f) = ∑ d, rms c1024 (x b t) A.g3 d * A.wu d f := by
  after_reads_at
  simp only [hx, h3, h10]
  rfl

/-- The down weights, entry by entry. -/
theorem down_w_at (h11 : ∀ f d, X (Proc.devRef .tc main_arg11) (ix3 1 f d) = A.wd f d) (f : Fin 2816) (d : Fin 1024) :
    after ((hostOps0_3.drop 28).drop 20) X (Proc.devRef .tc main_v107) (ix2 f d) = A.wd f d := by
  after_reads_at
  exact h11 f d

/-- The gate's activation, entry by entry. -/
theorem silu_at (b : Fin 16) (t : Fin 2048) (f : Fin 2816) :
    after hostOps0_4 X (Proc.devRef .tc main_v110) (ix3 b t f) = (let g : EReal := X (Proc.devRef .tc main_v108) (ix3 b t f);
      g * Ideal.logistic g) := by
  after_reads_at
  rfl

/-- The down projection, entry by entry. -/
theorem dn_at (b : Fin 16) (t : Fin 2048) (d : Fin 1024) (a u : Fin 2816 → EReal)
    (ha : ∀ f, X (Proc.devRef .tc main_v110) (ix3 b t f) = a f) (hu : ∀ f, X (Proc.devRef .tc main_v109) (ix3 b t f) = u f)
    (hw : ∀ f d, X (Proc.devRef .tc main_v107) (ix2 f d) = A.wd f d) :
    after (hostOps0_5.take 2) X (Proc.devRef .tc main_v112) (ix3 b t d) = ∑ f, a f * u f * A.wd f d := by
  after_reads_at
  simp only [ha, hu, hw]

/-- The last residual sum with its norm, entry by entry. -/
theorem res_at (b : Fin 16) (t : Fin 2048) (d : Fin 1024) (x n : Fin 1024 → EReal)
    (hx : ∀ d, X (Proc.devRef .tc main_v86) (ix3 b t d) = x d) (hn : ∀ d, X (Proc.devRef .tc main_v112) (ix3 b t d) = n d)
    (h4 : ∀ d, X (Proc.devRef .tc main_arg4) (ix2 1 d) = A.g4 d) :
    after (hostOps0_5.drop 2) X (Proc.devRef .tc main_v128) (ix3 b t d) = x d + rms c1024 n A.g4 d := by
  after_reads_at
  simp only [hx, hn, h4]
  rfl

section post

variable (hO : ∀ k b h j y, X (Proc.devRef .tc main_v46_9) (ix5 k b h j y) = ((((A.D b).H h y (64 * (k : Fin 32) + (j : Fin 64)) : ℝ)) : EReal))
  (h17 : ∀ j, X (Proc.devRef .tc main_v17) (ix1 j) = A.hg j) (h18 : ∀ e d, X (Proc.devRef .tc main_v18) (ix2 e d) = A.wo e d)
  (h26 : ∀ b t j, X (Proc.devRef .tc main_v26) (ix3 b t j) = A.u b t ⟨2048 + j, by omega⟩)
  (h0 : ∀ b t d, X (Proc.devRef .tc main_arg0) (ix3 b t d) = A.x b t d) (h2 : ∀ d, X (Proc.devRef .tc main_arg2) (ix2 1 d) = A.g2 d)
  (h3 : ∀ d, X (Proc.devRef .tc main_arg3) (ix2 1 d) = A.g3 d) (h4 : ∀ d, X (Proc.devRef .tc main_arg4) (ix2 1 d) = A.g4 d)
  (h9 : ∀ d f, X (Proc.devRef .tc main_arg9) (ix3 1 d f) = A.wg d f) (h10 : ∀ d f, X (Proc.devRef .tc main_arg10) (ix3 1 d f) = A.wu d f)
  (h11 : ∀ f d, X (Proc.devRef .tc main_arg11) (ix3 1 f d) = A.wd f d)

/-- What the first stretch leaves between the sublayers. -/
def X1 : Valuation τ sig (Elt Ideal) := after ((hostOps0_3.drop 28).take 20) (after (hostOps0_3.take 28) X)

include hO h17 h18 h26 h0 h2 in
/-- The rows after the first residual sum are the layer's. -/
theorem x1_eq (b : Fin 16) (t : Fin 2048) (d : Fin 1024) : X1 X (Proc.devRef .tc main_v86) (ix3 b t d) = A.x1 b t d :=
  x1_at _ A A.z (z_at X A hO h17 h26) (fun e d => by after_reads_at; exact h18 e d) (fun b t d => by after_reads_at; exact h0 b t d)
    (fun d => by after_reads_at; exact h2 d) b t d

include hO h17 h18 h26 h0 h2 h3 h4 h9 h10 h11 in
/-- The result. -/
theorem post (b : Fin 16) (t : Fin 2048) (d : Fin 1024) : afterL postI X (Proc.devRef .tc main_v128) (ix3 b t d) = A.out b t d := by
  have hx := x1_eq X A hO h17 h18 h26 h0 h2
  have k3 : ∀ d, X1 X (Proc.devRef .tc main_arg3) (ix2 1 d) = A.g3 d := fun d => by unfold X1; after_reads_at; exact h3 d
  have k4 : ∀ d, X1 X (Proc.devRef .tc main_arg4) (ix2 1 d) = A.g4 d := fun d => by unfold X1; after_reads_at; exact h4 d
  have k9 : ∀ d f, X1 X (Proc.devRef .tc main_arg9) (ix3 1 d f) = A.wg d f := fun d f => by unfold X1; after_reads_at; exact h9 d f
  have k10 : ∀ d f, X1 X (Proc.devRef .tc main_arg10) (ix3 1 d f) = A.wu d f := fun d f => by unfold X1; after_reads_at; exact h10 d f
  have k11 : ∀ f d, X1 X (Proc.devRef .tc main_arg11) (ix3 1 f d) = A.wd f d := fun f d => by unfold X1; after_reads_at; exact h11 f d
  have g := gate_at (X1 X) A _ hx k3 k9
  have u := up_at (X1 X) A _ hx k3 k10
  have w := down_w_at (X1 X) A k11
  simp only [afterL_cons, afterL_nil]
  rw [after_cut 28 hostOps0_3, after_cut 20 (hostOps0_3.drop 28), after_cut 2 hostOps0_5]
  change after (hostOps0_5.drop 2) (after (hostOps0_5.take 2) (after hostOps0_4 (after ((hostOps0_3.drop 28).drop 20) (X1 X)))) _ _ = _
  generalize X1 X = Y at *
  refine res_at _ A b t d (A.x1 b t) (down A.g3 A.wg A.wu A.wd (A.x1 b t)) (fun d => ?_) (fun d => ?_) (fun d => ?_)
  · after_reads_at
    exact hx b t d
  · refine (dn_at _ A b t d _ (fun f => ∑ d, rms c1024 (A.x1 b t) A.g3 d * A.wu d f) (fun f => silu_at _ b t f) (fun f => ?_) (fun f d => ?_)).trans ?_
    · refine Eq.trans (b := after ((hostOps0_3.drop 28).drop 20) Y (Proc.devRef .tc main_v109) (ix3 b t f)) ?_ (u b t f)
      generalize after ((hostOps0_3.drop 28).drop 20) Y = Z
      after_reads_at
    · refine Eq.trans (b := after ((hostOps0_3.drop 28).drop 20) Y (Proc.devRef .tc main_v107) (ix2 f d)) ?_ (w f d)
      generalize after ((hostOps0_3.drop 28).drop 20) Y = Z
      after_reads_at
    · simp only [g]
      rfl
  · after_reads_at
    exact k4 d

end post

variable (m : (ℓ : Loc nD τ sig) → Buf (Elt Ideal) ℓ) (c : Dev nD)

/-- A buffer the loop leaves alone holds after it what it held before. -/
theorem kept {r : Ref sig .tc}
    (h : r ∉ while0Ops0_W ++ while0Ops0_1_W ++ while0Ops0_2_W ++ while0Ops0_3_W ++ while0Ops0_4_W ++ while0Ops0_5_W
      ++ while0Ops0_6_W ++ while0Ops0_7_W ++ while0Ops0_8_W ++ while0Ops0_9_W ++ while0Ops0_10_W ++ while0Ops0_11_W ++ while0Ops0_12_W)
    (hc : r ∉ condOps_W) : after condOps (atK m 32 c) (Proc.devRef .tc r) = entryContents preI m c (Proc.devRef .tc r) :=
  (after_of_writes_sub _ _ condOps_writes hc).trans (RefFrame.atK_kept m c h hc 32)

/-- After the loop the arguments are as they were. -/
theorem kept_arg {r : Ref sig .tc} (hr : r ∈ ([main_arg0, main_arg1, main_arg2, main_arg3, main_arg4, main_arg5, main_arg6, main_arg7, main_arg8, main_arg9, main_arg10, main_arg11] : List (Ref sig .tc))) :
    after condOps (atK m 32 c) (Proc.devRef .tc r) = m (c, Proc.devRef .tc r) :=
  have ⟨h, hc, hp, _⟩ := RefFrame.args_unwritten r hr
  (kept m c h hc).trans (RefFrame.entry_kept m c hp)

/-- The reference's result. -/
theorem result (hA : (RefEntry.args m c).Ok) (b : Fin 16) (t : Fin 2048) (d : Fin 1024) :
    finalContents condOps preI bodyI postI 32 m c (Proc.devRef .tc main_v128) (ix3 b t d) = (RefEntry.args m c).out b t d := by
  refine post (after condOps (atK m 32 c)) (RefEntry.args m c) ?_ ?_ ?_ ?_ ?_ ?_ ?_ ?_ ?_ ?_ ?_ b t d
  · intro k b h j y
    rw [after_of_writes_sub _ _ condOps_writes (by decide +kernel : main_v46_9 ∉ condOps_W)]
    exact RefEntry.loop_out m c hA k b h j y
  · intro j
    rw [kept m c (by decide +kernel) (by decide +kernel)]
    simp only [entryContents, afterL_cons, afterL_nil]
    after_reads_at
    rfl
  · intro e d
    rw [kept m c (by decide +kernel) (by decide +kernel)]
    simp only [entryContents, afterL_cons, afterL_nil]
    after_reads_at
    rfl
  · intro b t j
    rw [kept m c (by decide +kernel) (by decide +kernel), ← RefEntry.u_in]
    simp only [entryContents, afterL_cons, afterL_nil]
    after_reads_at
  all_goals intros; rw [kept_arg m c (by decide +kernel)]; rfl

end Cert.RefPost

end
-- ==== Proof.Pieces.lean ====
/- Pieces of the kernel's scratch: what the stores of a grid point, one pair of heads after another, leave in an array. -/
module

public import proofs.«01_k».proof.Proof.KernelTile
public import Idealize.ShloMosaic.Lib.Pipeline.ValueKit
public import Idealize.ShloMosaic.Lib.Pointwise

@[expose] public section

set_option maxRecDepth 16384

noncomputable section

namespace Cert.Tile

open Cert.KernelIdeal Cert.KernelIdeal.Gen Idealize.ShloMosaic Idealize.ShloMosaic.TcCoe

variable {F : FTy → Type} [FloatOps F]

/-- What a whole buffer holding `x` reads, of two axes. -/
def rd2 {a b : ℕ} {e : EltTy} (M : Memref sig .tc .vmem ⟨2, ![a, b]⟩ e) (hM : M.IsWhole) (x : Vec F ⟨2, ![a, b]⟩ e) : Vec F ⟨2, ![a, b]⟩ e :=
  View.readAt (Elt F) M.view (Rect.unit ![0, 0] (⟨2, ![a, b]⟩ : Shape).size
    (fun x => by fin_cases x; exacts [(Nat.zero_add _).le, (Nat.zero_add _).le])).toLoadRect (hM.unread x)

/-- It reads `x`. -/
theorem rd2_eq {a b : ℕ} {e : EltTy} (M : Memref sig .tc .vmem ⟨2, ![a, b]⟩ e) (hM : M.IsWhole) (x : Vec F ⟨2, ![a, b]⟩ e) :
    rd2 M hM x = x := by
  unfold rd2
  rw [View.readAt_eq_ld, hM.read_unread]
  exact View.ld_unit_lit _ x (by intro i; fin_cases i <;> rfl)

/-- A box of a two-axis buffer holding `x`. -/
def rb2 {a b : ℕ} {e : EltTy} (o p r s : ℕ) (h : o + r ≤ a ∧ p + s ≤ b) (M : Memref sig .tc .vmem ⟨2, ![a, b]⟩ e) (hM : M.IsWhole)
    (x : Vec F ⟨2, ![a, b]⟩ e) : Vec F ⟨2, ![r, s]⟩ e :=
  View.readAt (Elt F) M.view (Rect.unit (s := ⟨2, ![a, b]⟩) ![o, p] ![r, s]
    (fun x => by fin_cases x; exacts [h.1, h.2])).toLoadRect (hM.unread x)

/-- What a whole buffer holding `x` reads, of three axes. -/
def rb3 {a b d : ℕ} {e : EltTy} (o p q r s t : ℕ) (h : o + r ≤ a ∧ p + s ≤ b ∧ q + t ≤ d) (M : Memref sig .tc .vmem ⟨3, ![a, b, d]⟩ e)
    (hM : M.IsWhole) (x : Vec F ⟨3, ![a, b, d]⟩ e) : Vec F ⟨3, ![r, s, t]⟩ e :=
  View.readAt (Elt F) M.view (Rect.unit (s := ⟨3, ![a, b, d]⟩) ![o, p, q] ![r, s, t]
    (fun x => by fin_cases x; exacts [h.1, h.2.1, h.2.2])).toLoadRect (hM.unread x)

/-! ## The pairs' states -/

/-- A pair's box lies in the array of matrix states. -/
theorem cRect_inb (pr : Fin 4) : ∀ x, (![(pr : ℕ), 0, 0] : Fin 3 → ℕ) x + S1x128x256.size x ≤ S4x128x256.size x :=
  fun x => by fin_cases x; exacts [by show (pr : ℕ) + 1 ≤ 4; omega, le_refl 128, le_refl 256]
/-- A pair's box of the matrix states. -/
def cRect (pr : Fin 4) : Rect S4x128x256 := Rect.unit ![(pr : ℕ), 0, 0] S1x128x256.size (cRect_inb pr)
/-- A pair's row lies in the array of summed keys. -/
theorem nRect_inb (pr : Fin 4) : ∀ x, (![(pr : ℕ), 0] : Fin 2 → ℕ) x + S1x128.size x ≤ S8x128.size x :=
  fun x => by fin_cases x; exacts [by show (pr : ℕ) + 1 ≤ 8; omega, le_refl 128]
/-- A pair's row of the summed keys. -/
def nRect (pr : Fin 4) : Rect S8x128 := Rect.unit ![(pr : ℕ), 0] S1x128.size (nRect_inb pr)

/-- Stores to the matrix states, the latest first. -/
abbrev CL (F : FTy → Type) [FloatOps F] := List (View.Piece (Elt F) S4x128x256 .f32)
/-- Stores to the summed keys, or to the maxima, the latest first. -/
abbrev NL (F : FTy → Type) [FloatOps F] := List (View.Piece (Elt F) S8x128 .f32)

/-- One pair's matrix state stored. -/
def setC1 (w : Fin 4 → FVec F S1x128x256 .f32) (pr : Fin 4) (L : CL F) : CL F :=
  (⟨cRect pr, w pr⟩ : View.Piece (Elt F) S4x128x256 .f32) :: L
/-- All four pairs' matrix states stored. -/
def setC (w : Fin 4 → FVec F S1x128x256 .f32) (L : CL F) : CL F :=
  setC1 w 3 (setC1 w 2 (setC1 w 1 (setC1 w 0 L)))
/-- A load of a pair's matrix state after stores. -/
def getC (M : Memref sig .tc .vmem S4x128x256 .f32) (L : CL F) (pr : Fin 4) : FVec F S1x128x256 .f32 :=
  M.view.readCov L (cRect pr).toLoadRect
/-- One pair's matrix state loaded, updated and stored. -/
def updC1 (M : Memref sig .tc .vmem S4x128x256 .f32) (w : Fin 4 → FVec F S1x128x256 .f32 → FVec F S1x128x256 .f32) (pr : Fin 4)
    (L : CL F) : CL F := (⟨cRect pr, w pr (getC M L pr)⟩ : View.Piece (Elt F) S4x128x256 .f32) :: L
/-- All four pairs' matrix states loaded, updated and stored. -/
def updC (M : Memref sig .tc .vmem S4x128x256 .f32) (w : Fin 4 → FVec F S1x128x256 .f32 → FVec F S1x128x256 .f32)
    (L : CL F) : CL F := updC1 M w 3 (updC1 M w 2 (updC1 M w 1 (updC1 M w 0 L)))

/-- One pair's summed keys stored. -/
def setN1 (w : Fin 4 → FVec F S1x128 .f32) (pr : Fin 4) (L : NL F) : NL F :=
  (⟨nRect pr, w pr⟩ : View.Piece (Elt F) S8x128 .f32) :: L
/-- All four pairs' summed keys stored. -/
def setN (w : Fin 4 → FVec F S1x128 .f32) (L : NL F) : NL F :=
  setN1 w 3 (setN1 w 2 (setN1 w 1 (setN1 w 0 L)))
/-- A load of a pair's summed keys after stores. -/
def getN (M : Memref sig .tc .vmem S8x128 .f32) (L : NL F) (pr : Fin 4) : FVec F S1x128 .f32 :=
  M.view.readCov L (nRect pr).toLoadRect
/-- One pair's summed keys loaded, updated and stored. -/
def updN1 (M : Memref sig .tc .vmem S8x128 .f32) (w : Fin 4 → FVec F S1x128 .f32 → FVec F S1x128 .f32) (pr : Fin 4)
    (L : NL F) : NL F := (⟨nRect pr, w pr (getN M L pr)⟩ : View.Piece (Elt F) S8x128 .f32) :: L
/-- All four pairs' summed keys loaded, updated and stored. -/
def updN (M : Memref sig .tc .vmem S8x128 .f32) (w : Fin 4 → FVec F S1x128 .f32 → FVec F S1x128 .f32)
    (L : NL F) : NL F := updN1 M w 3 (updN1 M w 2 (updN1 M w 1 (updN1 M w 0 L)))

/-- One whole store of the maxima. -/
def mPut (w : FVec F S8x128 .f32) (L : NL F) : NL F :=
  (⟨Rect.unit ![0, 0] S8x128.size inb_S8x128_S8x128_0_0, w⟩ : View.Piece (Elt F) S8x128 .f32) :: L
/-- A load of the maxima after stores. -/
def mGet (M : Memref sig .tc .vmem S8x128 .f32) (L : NL F) : FVec F S1x128 .f32 := M.view.readCov L (nRect 0).toLoadRect
/-- Row zero of the maxima held. -/
def mRd (M : Memref sig .tc .vmem S8x128 .f32) (hM : M.IsWhole) (x : FVec F S8x128 .f32) : FVec F S1x128 .f32 :=
  View.readAt (Elt F) M.view (nRect 0).toLoadRect (hM.unread x)
/-- A pair's summed keys held. -/
def nRd (M : Memref sig .tc .vmem S8x128 .f32) (hM : M.IsWhole) (x : FVec F S8x128 .f32) (pr : Fin 4) : FVec F S1x128 .f32 :=
  View.readAt (Elt F) M.view (nRect pr).toLoadRect (hM.unread x)
/-- A pair's matrix state held. -/
def cRd (M : Memref sig .tc .vmem S4x128x256 .f32) (hM : M.IsWhole) (x : FVec F S4x128x256 .f32) (pr : Fin 4) : FVec F S1x128x256 .f32 :=
  View.readAt (Elt F) M.view (cRect pr).toLoadRect (hM.unread x)

/-! ## The heads' outputs -/

/-- A head's block of a chunk lies in the array of the heads' outputs. -/
theorem hRect_inb (ch : Fin 2) (pr : Fin 4) (sb : Fin 2) :
    ∀ x, (![256 * (ch : ℕ), 128 * hd pr sb] : Fin 2 → ℕ) x + S256x128.size x ≤ S512x1024.size x :=
  fun x => by have := hd_lt pr sb; fin_cases x; exacts [ch_le ch, by show 128 * hd pr sb + 128 ≤ 1024; omega]
/-- A head's block of a chunk in the array of the heads' outputs. -/
def hRect (ch : Fin 2) (pr : Fin 4) (sb : Fin 2) : Rect S512x1024 :=
  Rect.unit ![256 * (ch : ℕ), 128 * hd pr sb] S256x128.size (hRect_inb ch pr sb)
/-- Stores to the heads' outputs, the latest first. -/
abbrev HL (F : FTy → Type) [FloatOps F] := List (View.Piece (Elt F) S512x1024 .bf16)
/-- A pair's two heads stored. -/
def setH1 (ch : Fin 2) (w : Fin 4 → Fin 2 → FVec F S256x128 .bf16) (pr : Fin 4) (L : HL F) : HL F :=
  (⟨hRect ch pr 1, w pr 1⟩ : View.Piece (Elt F) S512x1024 .bf16) :: (⟨hRect ch pr 0, w pr 0⟩ : View.Piece (Elt F) S512x1024 .bf16) :: L
/-- All heads of a chunk stored. -/
def setH (ch : Fin 2) (w : Fin 4 → Fin 2 → FVec F S256x128 .bf16) (L : HL F) : HL F :=
  setH1 ch w 3 (setH1 ch w 2 (setH1 ch w 1 (setH1 ch w 0 L)))

/-- A load of all the heads' outputs after stores. -/
def hGet (M : Memref sig .tc .vmem S512x1024 .bf16) (L : HL F) : FVec F S512x1024 .bf16 :=
  M.view.readCov L (Rect.unit (s := S512x1024) ![0, 0] S512x1024.size inb_S512x1024_S512x1024_0_0).toLoadRect

/-- The stores of the states made before pair `pr` is read, one pair after another. -/
def updCs (M : Memref sig .tc .vmem S4x128x256 .f32) (w : Fin 4 → FVec F S1x128x256 .f32 → FVec F S1x128x256 .f32)
    (L : CL F) : Fin 4 → CL F :=
  ![L, updC1 M w 0 L, updC1 M w 1 (updC1 M w 0 L), updC1 M w 2 (updC1 M w 1 (updC1 M w 0 L))]
/-- The same of the summed keys. -/
def updNs (M : Memref sig .tc .vmem S8x128 .f32) (w : Fin 4 → FVec F S1x128 .f32 → FVec F S1x128 .f32)
    (L : NL F) : Fin 4 → NL F :=
  ![L, updN1 M w 0 L, updN1 M w 1 (updN1 M w 0 L), updN1 M w 2 (updN1 M w 1 (updN1 M w 0 L))]

/-- The rows between the two sublayers, from the heads' outputs. -/
def mid (H : FVec F S512x1024 .bf16) (x0 : FVec F S1x512x1024 .f32) (x2 : FVec F S1x1024 .f32) (x8 : FVec F S1024x1024 .bf16) :
    FVec F S512x1024 .f32 := k0_pay6 (k0_pay533 (k0_pay531 H x8) (k0_pay532 H x8) x0 x2)

/-- The feed-forward of the rows `md`. -/
def ffn (md : FVec F S512x1024 .f32) (x9 x10 : FVec F S1x1024 .f32) (wg0 wg1 wg2 : FVec F S1x1024x768 .bf16) (wg3 : FVec F S1x1024x512 .bf16)
    (wu0 wu1 wu2 : FVec F S1x1024x768 .bf16) (wu3 : FVec F S1x1024x512 .bf16) (wd : FVec F S1x2816x1024 .bf16) : FVec F S1x512x1024 .f32 :=
  k0_pay534 (k0_pay456 (k0_pay275 (k0_pay270 md x9) (k0_pay272 md x9 wg0) wu0)
    (k0_pay279 (k0_pay276 (k0_pay270 md x9) wg1) (k0_pay277 (k0_pay270 md x9) wu1) (k0_pay278 (k0_pay270 md x9) wg1))
    (k0_pay386 (k0_pay280 (k0_pay270 md x9) wg2) (k0_pay324 (k0_pay270 md x9) wu2)) (k0_pay387 (k0_pay270 md x9) wg3)
    (k0_pay431 (k0_pay270 md x9) wu3) wd) md x10

end Cert.Tile

end
-- ==== Proof.Match.lean ====
/- What the buffers hold after a grid point, in the words of the tile functions: every case of the body matched against them. -/
module
public import proofs.«01_k».proof.Proof.Pieces
@[expose] public section
set_option maxRecDepth 16384
noncomputable section
namespace Cert.Match
open Cert.KernelIdeal Cert.KernelIdeal.Gen Idealize.ShloMosaic Idealize.ShloMosaic.TcCoe Cert.Tile
variable {F : FTy → Type} [FloatOps F]
variable (m : (ℓ : Loc nD τ sig) → Buf (Elt F) ℓ) (c : Dev nD) (t : Fin cfg0.N)

/-- The input's tile at the point. -/
def X0 : FVec F S1x512x1024 .f32 := rb3 0 0 0 1 512 1024 (by decide) (ms0_0 t) (hs0_0 t) (iblk m c 0 t)
/-- The normed tile. -/
def hB : FVec F S512x1024 .bf16 := k0_pay271 (X0 m c t) (rd2 (ms0_1 t) (hs0_1 t) (iblk m c 1 t))
/-- The gates of the tile. -/
def gB : FVec F S512x256 .f32 := k0_pay273 (hB m c t) (rd2 (ms0_5 t) (hs0_5 t) (iblk m c 5 t)) (rd2 (ms0_6 t) (hs0_6 t) (iblk m c 6 t))
/-- The wide projections of the tile. -/
def uB : FVec F S512x3072 .f32 := k0_pay274 (hB m c t) (rd2 (ms0_3 t) (hs0_3 t) (iblk m c 3 t)) (rd2 (ms0_4 t) (hs0_4 t) (iblk m c 4 t))

/-- What the point before left. -/
def prevO := outsAt0 m c (t.val - 1) (Nat.lt_of_le_of_lt (Nat.sub_le _ _) t.isLt)
/-- The feed-forward of the rows the point before left. -/
def ffnB : FVec F S1x512x1024 .f32 :=
  ffn (rd2 scM0_4 (Memref.isWhole_whole _) (prevO m c t).2.2.2.2) (rd2 (ms0_9 t) (hs0_9 t) (iblk m c 9 t)) (rd2 (ms0_10 t) (hs0_10 t) (iblk m c 10 t))
    (rb3 0 0 0 1 1024 768 (by decide) (ms0_11 t) (hs0_11 t) (iblk m c 11 t)) (rb3 0 0 768 1 1024 768 (by decide) (ms0_11 t) (hs0_11 t) (iblk m c 11 t))
    (rb3 0 0 1536 1 1024 768 (by decide) (ms0_11 t) (hs0_11 t) (iblk m c 11 t)) (rb3 0 0 2304 1 1024 512 (by decide) (ms0_11 t) (hs0_11 t) (iblk m c 11 t))
    (rb3 0 0 0 1 1024 768 (by decide) (ms0_12 t) (hs0_12 t) (iblk m c 12 t)) (rb3 0 0 768 1 1024 768 (by decide) (ms0_12 t) (hs0_12 t) (iblk m c 12 t))
    (rb3 0 0 1536 1 1024 768 (by decide) (ms0_12 t) (hs0_12 t) (iblk m c 12 t)) (rb3 0 0 2304 1 1024 512 (by decide) (ms0_12 t) (hs0_12 t) (iblk m c 12 t))
    (rb3 0 0 0 1 2816 1024 (by decide) (ms0_13 t) (hs0_13 t) (iblk m c 13 t))

/-! ## Within a batch -/

/-- The maxima before the first chunk. -/
def mp0B : FVec F S1x128 .f32 := mRd scM0_2 (Memref.isWhole_whole _) (prevO m c t).2.2.2.1
/-- The stores of the maxima after the first chunk. -/
def mL0B : NL F := mPut (mout (gB m c t) 0 (mp0B m c t)) []
/-- The maxima before the second chunk. -/
def mp1B : FVec F S1x128 .f32 := mGet scM0_2 (mL0B m c t)
/-- The stores of the maxima after the second chunk. -/
def mL1B : NL F := mPut (mout (gB m c t) 1 (mp1B m c t)) (mL0B m c t)

/-- The stores of the matrix states after the first chunk. -/
def cL0B : CL F := setC (fun pr => cNew (uB m c t) (gB m c t) 0 (mp0B m c t) pr (cRd scM0_0 (Memref.isWhole_whole _) (prevO m c t).2.1 pr)) []
/-- The stores of the matrix states after the second chunk. -/
def cL1B : CL F := updC scM0_0 (fun pr => cNew (uB m c t) (gB m c t) 1 (mp1B m c t) pr) (cL0B m c t)
/-- The stores of the summed keys after the first chunk. -/
def nL0B : NL F := setN (fun pr => nNew (uB m c t) (gB m c t) 0 (mp0B m c t) pr (nRd scM0_1 (Memref.isWhole_whole _) (prevO m c t).2.2.1 pr)) []
/-- The stores of the summed keys after the second chunk. -/
def nL1B : NL F := updN scM0_1 (fun pr => nNew (uB m c t) (gB m c t) 1 (mp1B m c t) pr) (nL0B m c t)

/-- A head's gated output of the first chunk. -/
def out0B (pr : Fin 4) (sb : Fin 2) : FVec F S256x128 .bf16 :=
  gated (uB m c t) 0 pr (rd2 (ms0_7 t) (hs0_7 t) (iblk m c 7 t)) sb (hh (uB m c t) (gB m c t) 0 (mp0B m c t) pr sb
    (cRd scM0_0 (Memref.isWhole_whole _) (prevO m c t).2.1 pr) (nRd scM0_1 (Memref.isWhole_whole _) (prevO m c t).2.2.1 pr))
/-- A head's gated output of the second chunk, from the stores of the states made before it. -/
def out1cB (pr : Fin 4) (cL : CL F) (nL : NL F) (sb : Fin 2) : FVec F S256x128 .bf16 :=
  gated (uB m c t) 1 pr (rd2 (ms0_7 t) (hs0_7 t) (iblk m c 7 t)) sb (hh (uB m c t) (gB m c t) 1 (mp1B m c t) pr sb
    (getC scM0_0 cL pr) (getN scM0_1 nL pr))
/-- The stores of the heads' outputs. -/
def hLB (cL : Fin 4 → CL F) (nL : Fin 4 → NL F) : HL F :=
  setH 1 (fun pr => out1cB m c t pr (cL pr) (nL pr)) (setH 0 (out0B m c t) [])
/-- The stores of the matrix states when each pair's second chunk is read. -/
def cLsB : Fin 4 → CL F := updCs scM0_0 (fun pr => cNew (uB m c t) (gB m c t) 1 (mp1B m c t) pr) (cL0B m c t)
/-- The stores of the summed keys when each pair's second chunk is read. -/
def nLsB : Fin 4 → NL F := updNs scM0_1 (fun pr => nNew (uB m c t) (gB m c t) 1 (mp1B m c t) pr) (nL0B m c t)
/-- The rows left for the feed-forward. -/
def mdB : FVec F S512x1024 .f32 :=
  mid (hGet scM0_3 (hLB m c t (cLsB m c t) (nLsB m c t))) (X0 m c t) (rd2 (ms0_2 t) (hs0_2 t) (iblk m c 2 t)) (rd2 (ms0_8 t) (hs0_8 t) (iblk m c 8 t))
/-! ## At a batch's first tile -/

/-- The zeros a batch's first tile starts from. -/
def cZ : CL F := [⟨Rect.unit ![0, 0, 0] S4x128x256.size inb_S4x128x256_S4x128x256_0_0_0, k0_pay1⟩]
/-- The zeros the summed keys start from. -/
def nZ : NL F := [⟨Rect.unit ![0, 0] S8x128.size inb_S8x128_S8x128_0_0, k0_pay2⟩]
/-- The zeros the maxima start from. -/
def mZ : NL F := [⟨Rect.unit ![0, 0] S8x128.size inb_S8x128_S8x128_0_0, k0_pay3⟩]

/-- The maxima before the first chunk. -/
def mp0Z : FVec F S1x128 .f32 := mGet scM0_2 mZ
/-- The stores of the maxima after the first chunk. -/
def mL0Z : NL F := mPut (mout (gB m c t) 0 mp0Z) mZ
/-- The maxima before the second chunk. -/
def mp1Z : FVec F S1x128 .f32 := mGet scM0_2 (mL0Z m c t)
/-- The stores of the maxima after the second chunk. -/
def mL1Z : NL F := mPut (mout (gB m c t) 1 (mp1Z m c t)) (mL0Z m c t)

/-- The stores of the matrix states after the first chunk. -/
def cL0Z : CL F := updC scM0_0 (fun pr => cNew (uB m c t) (gB m c t) 0 mp0Z pr) cZ
/-- The stores of the matrix states after the second chunk. -/
def cL1Z : CL F := updC scM0_0 (fun pr => cNew (uB m c t) (gB m c t) 1 (mp1Z m c t) pr) (cL0Z m c t)
/-- The stores of the summed keys after the first chunk. -/
def nL0Z : NL F := updN scM0_1 (fun pr => nNew (uB m c t) (gB m c t) 0 mp0Z pr) nZ
/-- The stores of the summed keys after the second chunk. -/
def nL1Z : NL F := updN scM0_1 (fun pr => nNew (uB m c t) (gB m c t) 1 (mp1Z m c t) pr) (nL0Z m c t)
/-- A head's gated output of the first chunk, from the stores of the states made before it. -/
def out0Z (pr : Fin 4) (cL : CL F) (nL : NL F) (sb : Fin 2) : FVec F S256x128 .bf16 :=
  gated (uB m c t) 0 pr (rd2 (ms0_7 t) (hs0_7 t) (iblk m c 7 t)) sb (hh (uB m c t) (gB m c t) 0 mp0Z pr sb
    (getC scM0_0 cL pr) (getN scM0_1 nL pr))
/-- The stores of the matrix states when each pair's first chunk is read. -/
def cLs0 : Fin 4 → CL F := updCs scM0_0 (fun pr => cNew (uB m c t) (gB m c t) 0 mp0Z pr) cZ
/-- The stores of the summed keys when each pair's first chunk is read. -/
def nLs0 : Fin 4 → NL F := updNs scM0_1 (fun pr => nNew (uB m c t) (gB m c t) 0 mp0Z pr) nZ
/-- A head's gated output of the second chunk, from the stores of the states made before it. -/
def out1cZ (pr : Fin 4) (cL : CL F) (nL : NL F) (sb : Fin 2) : FVec F S256x128 .bf16 :=
  gated (uB m c t) 1 pr (rd2 (ms0_7 t) (hs0_7 t) (iblk m c 7 t)) sb (hh (uB m c t) (gB m c t) 1 (mp1Z m c t) pr sb
    (getC scM0_0 cL pr) (getN scM0_1 nL pr))
/-- The stores of the heads' outputs. -/
def hLZ (cL : Fin 4 → CL F) (nL : Fin 4 → NL F) : HL F :=
  setH 1 (fun pr => out1cZ m c t pr (cL pr) (nL pr)) (setH 0 (fun pr => out0Z m c t pr (cLs0 m c t pr) (nLs0 m c t pr)) [])
/-- The stores of the matrix states when each pair's second chunk is read. -/
def cLsZ : Fin 4 → CL F := updCs scM0_0 (fun pr => cNew (uB m c t) (gB m c t) 1 (mp1Z m c t) pr) (cL0Z m c t)
/-- The stores of the summed keys when each pair's second chunk is read. -/
def nLsZ : Fin 4 → NL F := updNs scM0_1 (fun pr => nNew (uB m c t) (gB m c t) 1 (mp1Z m c t) pr) (nL0Z m c t)
/-- The rows left for the feed-forward. -/
def mdZ : FVec F S512x1024 .f32 :=
  mid (hGet scM0_3 (hLZ m c t (cLsZ m c t) (nLsZ m c t))) (X0 m c t) (rd2 (ms0_2 t) (hs0_2 t) (iblk m c 2 t)) (rd2 (ms0_8 t) (hs0_8 t) (iblk m c 8 t))
section caseB

variable (h0 : ¬(t.val % 65 = 0 ∨ t.val % 65 = 4 ∨ t.val % 65 = 8 ∨ t.val % 65 = 12 ∨ t.val % 65 = 16 ∨ t.val % 65 = 20 ∨ t.val % 65 = 24 ∨ t.val % 65 = 28 ∨ t.val % 65 = 32 ∨ t.val % 65 = 36 ∨ t.val % 65 = 40 ∨ t.val % 65 = 44 ∨ t.val % 65 = 48 ∨ t.val % 65 = 52 ∨ t.val % 65 = 56 ∨ t.val % 65 = 60)) (h1 : ¬t.val % 65 = 0) (h2 : ¬t.val % 65 = 64) (h3 : (1 ≤ t.val % 65 ∧ t.val % 65 ≤ 63))

include h0 h1 h2 h3

/-- Within a batch, the maxima left. -/
theorem m_eq_B : (outsAt0 m c t.val t.isLt).2.2.2.1 = View.canon (mL1B m c t) := by
  rw [outsAt0_B m c t h0 h1 h2 h3]
  dsimp only
  unfold sout0_B_2
  refine (View.read_writes_junk_eq_canon (Val := Elt F) _ _).trans ?_
  exact congrArg View.canon (by sl_kernel_rfl)

/-- Within a batch, the matrix states left. -/
theorem c_eq_B : (outsAt0 m c t.val t.isLt).2.1 = View.canon (cL1B m c t) := by
  rw [outsAt0_B m c t h0 h1 h2 h3]
  dsimp only
  unfold sout0_B_0
  refine (View.read_writes_junk_eq_canon (Val := Elt F) _ _).trans ?_
  exact congrArg View.canon (by sl_kernel_rfl)

/-- Within a batch, the summed keys left. -/
theorem n_eq_B : (outsAt0 m c t.val t.isLt).2.2.1 = scM0_1.view.read (Elt F) (scM0_1.view.writes (Elt F)
    ((Memref.isWhole_whole _).unread (prevO m c t).2.2.1) (nL1B m c t)) := by
  rw [outsAt0_B m c t h0 h1 h2 h3]
  dsimp only
  unfold sout0_B_1
  exact congrArg (fun L => scM0_1.view.read (Elt F) (scM0_1.view.writes (Elt F) ((Memref.isWhole_whole _).unread (prevO m c t).2.2.1) L)) (by sl_kernel_rfl)

/-- Within a batch, the rows left for the feed-forward. -/
theorem mid_eq_B : (outsAt0 m c t.val t.isLt).2.2.2.2 = mdB m c t := by
  rw [outsAt0_B m c t h0 h1 h2 h3]
  dsimp only
  unfold sout0_B_4
  refine (View.read_writes_junk_eq_canon (Val := Elt F) _ _).trans ?_
  exact Eq.trans (b := View.canon [⟨Rect.unit ![0, 0] ![512, 1024] inb_S512x1024_S512x1024_0_0, mdB m c t⟩]) (congrArg View.canon (by sl_kernel_rfl)) (View.canon_cons_unit_lit (Val := Elt F) (S := S512x1024) _ _ _ (by decide))

/-- Within a batch, the output block left. -/
theorem out_eq_B : (outsAt0 m c t.val t.isLt).1 = ffnB m c t := by
  rw [outsAt0_B m c t h0 h1 h2 h3]
  dsimp only
  unfold out0_B_14
  refine (View.read_writes_junk_eq_canon (Val := Elt F) _ _).trans ?_
  exact Eq.trans (b := View.canon [⟨Rect.unit ![0, 0, 0] ![1, 512, 1024] inb_S1x512x1024_S1x512x1024_0_0_0, ffnB m c t⟩]) (congrArg View.canon (by sl_kernel_rfl)) (View.canon_cons_unit_lit (Val := Elt F) (S := S1x512x1024) _ _ _ (by decide))

end caseB

section caseC

variable (h0 : (t.val % 65 = 0 ∨ t.val % 65 = 4 ∨ t.val % 65 = 8 ∨ t.val % 65 = 12 ∨ t.val % 65 = 16 ∨ t.val % 65 = 20 ∨ t.val % 65 = 24 ∨ t.val % 65 = 28 ∨ t.val % 65 = 32 ∨ t.val % 65 = 36 ∨ t.val % 65 = 40 ∨ t.val % 65 = 44 ∨ t.val % 65 = 48 ∨ t.val % 65 = 52 ∨ t.val % 65 = 56 ∨ t.val % 65 = 60)) (h1 : ¬t.val % 65 = 0) (h2 : ¬t.val % 65 = 64) (h3 : (1 ≤ t.val % 65 ∧ t.val % 65 ≤ 63))

include h0 h1 h2 h3

/-- At a batch's first tile but the first batch's, the maxima left. -/
theorem m_eq_C : (outsAt0 m c t.val t.isLt).2.2.2.1 = View.canon (mL1Z m c t) := by
  rw [outsAt0_C m c t h0 h1 h2 h3]
  dsimp only
  unfold sout0_C_2
  refine (View.read_writes_junk_eq_canon (Val := Elt F) _ _).trans ?_
  exact congrArg View.canon (by sl_kernel_rfl)

/-- At a batch's first tile but the first batch's, the matrix states left. -/
theorem c_eq_C : (outsAt0 m c t.val t.isLt).2.1 = View.canon (cL1Z m c t) := by
  rw [outsAt0_C m c t h0 h1 h2 h3]
  dsimp only
  unfold sout0_C_0
  refine (View.read_writes_junk_eq_canon (Val := Elt F) _ _).trans ?_
  exact congrArg View.canon (by sl_kernel_rfl)

/-- At a batch's first tile but the first batch's, the summed keys left. -/
theorem n_eq_C : (outsAt0 m c t.val t.isLt).2.2.1 = View.canon (nL1Z m c t) := by
  rw [outsAt0_C m c t h0 h1 h2 h3]
  dsimp only
  unfold sout0_C_1
  refine (View.read_writes_junk_eq_canon (Val := Elt F) _ _).trans ?_
  exact congrArg View.canon (by sl_kernel_rfl)

/-- At a batch's first tile but the first batch's, the rows left for the feed-forward. -/
theorem mid_eq_C : (outsAt0 m c t.val t.isLt).2.2.2.2 = mdZ m c t := by
  rw [outsAt0_C m c t h0 h1 h2 h3]
  dsimp only
  unfold sout0_C_4
  refine (View.read_writes_junk_eq_canon (Val := Elt F) _ _).trans ?_
  exact Eq.trans (b := View.canon [⟨Rect.unit ![0, 0] ![512, 1024] inb_S512x1024_S512x1024_0_0, mdZ m c t⟩]) (congrArg View.canon (by sl_kernel_rfl)) (View.canon_cons_unit_lit (Val := Elt F) (S := S512x1024) _ _ _ (by decide))

/-- At a batch's first tile but the first batch's, the output block left. -/
theorem out_eq_C : (outsAt0 m c t.val t.isLt).1 = ffnB m c t := by
  rw [outsAt0_C m c t h0 h1 h2 h3]
  dsimp only
  unfold out0_C_14
  refine (View.read_writes_junk_eq_canon (Val := Elt F) _ _).trans ?_
  exact Eq.trans (b := View.canon [⟨Rect.unit ![0, 0, 0] ![1, 512, 1024] inb_S1x512x1024_S1x512x1024_0_0_0, ffnB m c t⟩]) (congrArg View.canon (by sl_kernel_rfl)) (View.canon_cons_unit_lit (Val := Elt F) (S := S1x512x1024) _ _ _ (by decide))

end caseC

section caseA

variable (h0 : (t.val % 65 = 0 ∨ t.val % 65 = 4 ∨ t.val % 65 = 8 ∨ t.val % 65 = 12 ∨ t.val % 65 = 16 ∨ t.val % 65 = 20 ∨ t.val % 65 = 24 ∨ t.val % 65 = 28 ∨ t.val % 65 = 32 ∨ t.val % 65 = 36 ∨ t.val % 65 = 40 ∨ t.val % 65 = 44 ∨ t.val % 65 = 48 ∨ t.val % 65 = 52 ∨ t.val % 65 = 56 ∨ t.val % 65 = 60)) (h1 : t.val % 65 = 0) (h2 : ¬t.val % 65 = 64) (h3 : ¬(1 ≤ t.val % 65 ∧ t.val % 65 ≤ 63))

include h0 h1 h2 h3

/-- At the first point, the maxima left. -/
theorem m_eq_A : (outsAt0 m c t.val t.isLt).2.2.2.1 = View.canon (mL1Z m c t) := by
  rw [outsAt0_A m c t h0 h1 h2 h3]
  dsimp only
  unfold sout0_A_2
  refine (View.read_writes_junk_eq_canon (Val := Elt F) _ _).trans ?_
  exact congrArg View.canon (by sl_kernel_rfl)

/-- At the first point, the matrix states left. -/
theorem c_eq_A : (outsAt0 m c t.val t.isLt).2.1 = View.canon (cL1Z m c t) := by
  rw [outsAt0_A m c t h0 h1 h2 h3]
  dsimp only
  unfold sout0_A_0
  refine (View.read_writes_junk_eq_canon (Val := Elt F) _ _).trans ?_
  exact congrArg View.canon (by sl_kernel_rfl)

/-- At the first point, the summed keys left. -/
theorem n_eq_A : (outsAt0 m c t.val t.isLt).2.2.1 = View.canon (nL1Z m c t) := by
  rw [outsAt0_A m c t h0 h1 h2 h3]
  dsimp only
  unfold sout0_A_1
  refine (View.read_writes_junk_eq_canon (Val := Elt F) _ _).trans ?_
  exact congrArg View.canon (by sl_kernel_rfl)

/-- At the first point, the rows left for the feed-forward. -/
theorem mid_eq_A : (outsAt0 m c t.val t.isLt).2.2.2.2 = mdZ m c t := by
  rw [outsAt0_A m c t h0 h1 h2 h3]
  dsimp only
  unfold sout0_A_4
  refine (View.read_writes_junk_eq_canon (Val := Elt F) _ _).trans ?_
  exact Eq.trans (b := View.canon [⟨Rect.unit ![0, 0] ![512, 1024] inb_S512x1024_S512x1024_0_0, mdZ m c t⟩]) (congrArg View.canon (by sl_kernel_rfl)) (View.canon_cons_unit_lit (Val := Elt F) (S := S512x1024) _ _ _ (by decide))

end caseA

section caseD

variable (h0 : ¬(t.val % 65 = 0 ∨ t.val % 65 = 4 ∨ t.val % 65 = 8 ∨ t.val % 65 = 12 ∨ t.val % 65 = 16 ∨ t.val % 65 = 20 ∨ t.val % 65 = 24 ∨ t.val % 65 = 28 ∨ t.val % 65 = 32 ∨ t.val % 65 = 36 ∨ t.val % 65 = 40 ∨ t.val % 65 = 44 ∨ t.val % 65 = 48 ∨ t.val % 65 = 52 ∨ t.val % 65 = 56 ∨ t.val % 65 = 60)) (h1 : ¬t.val % 65 = 0) (h2 : t.val % 65 = 64) (h3 : ¬(1 ≤ t.val % 65 ∧ t.val % 65 ≤ 63))

include h0 h1 h2 h3

/-- At the last point, the output block left. -/
theorem out_eq_D : (outsAt0 m c t.val t.isLt).1 = ffnB m c t := by
  rw [outsAt0_D m c t h0 h1 h2 h3]
  dsimp only
  unfold out0_D_14
  refine (View.read_writes_junk_eq_canon (Val := Elt F) _ _).trans ?_
  exact Eq.trans (b := View.canon [⟨Rect.unit ![0, 0, 0] ![1, 512, 1024] inb_S1x512x1024_S1x512x1024_0_0_0, ffnB m c t⟩]) (congrArg View.canon (by sl_kernel_rfl)) (View.canon_cons_unit_lit (Val := Elt F) (S := S1x512x1024) _ _ _ (by decide))

end caseD

end Cert.Match

end
-- ==== Proof.After.lean ====
/- What a list of stores leaves, read at an index. -/
module

public import proofs.«01_k».proof.Proof.Match

@[expose] public section

set_option maxRecDepth 16384

noncomputable section

namespace Cert.Tile

open Cert.KernelIdeal Cert.KernelIdeal.Gen Idealize.ShloMosaic Idealize.ShloMosaic.TcCoe

variable {F : FTy → Type} [FloatOps F]

/-- A pair's box of the states. -/
def boxC (X : FVec F S4x128x256 .f32) (pr : Fin 4) : FVec F S1x128x256 .f32 := fun x => X (ix3 (n0 := 4) (n1 := 128) (n2 := 256) pr (x 1) (x 2))
/-- The states put together from the pairs'. -/
def asmC (w : Fin 4 → FVec F S1x128x256 .f32) : FVec F S4x128x256 .f32 :=
  fun j => w (j 0) (ix3 (n0 := 1) (n1 := 128) (n2 := 256) 0 (j 1) (j 2))
/-- A pair's row of the summed keys. -/
def boxN (X : FVec F S8x128 .f32) (pr : Fin 4) : FVec F S1x128 .f32 :=
  fun x => X (ix2 (n0 := 8) (n1 := 128) ⟨(pr : ℕ), by omega⟩ (x 1))

/-- A pair's box of the assembled array is the box it was assembled from. -/
theorem boxC_asmC (w : Fin 4 → FVec F S1x128x256 .f32) (pr : Fin 4) : boxC (asmC w) pr = w pr := by
  funext x; idx_vars x; show w pr (ix3 0 x1 x2) = w pr (ix3 x0 x1 x2)
  rw [Subsingleton.elim x0 0]

/-- An entry of the matrix states after one more store: of the pair stored, the new box; of any other, as before. -/
theorem canon_c (pr : Fin 4) (w : FVec F S1x128x256 .f32) (L : CL F) (j0 : Fin 4) (j1 : Fin 128) (j2 : Fin 256) :
    View.canon ((⟨cRect pr, w⟩ : View.Piece (Elt F) S4x128x256 .f32) :: L) (ix3 (n0 := 4) (n1 := 128) (n2 := 256) j0 j1 j2)
      = if j0 = pr then w (ix3 (n0 := 1) (n1 := 128) (n2 := 256) 0 j1 j2)
        else View.canon L (ix3 (n0 := 4) (n1 := 128) (n2 := 256) j0 j1 j2) := by
  split
  · rename_i h
    subst h
    have e : ix3 (n0 := 4) (n1 := 128) (n2 := 256) j0 j1 j2 = (cRect j0).emb (ix3 (n0 := 1) (n1 := 128) (n2 := 256) 0 j1 j2) := by
      funext a
      apply Fin.ext
      have := Rect.idx_unit_val (s := S4x128x256) ![(j0 : ℕ), 0, 0] S1x128x256.size (cRect_inb j0) (ix3 (n0 := 1) (n1 := 128) (n2 := 256) 0 j1 j2) a
      refine Eq.trans ?_ this.symm
      fin_cases a
      · show (j0 : ℕ) = j0 + 0; omega
      · show (j1 : ℕ) = 0 + j1; omega
      · show (j2 : ℕ) = 0 + j2; omega
    rw [e]
    exact View.canon_cons_emb (Val := Elt F) (cRect j0) w L _
  · rename_i h
    refine View.canon_cons_of_not_mem (Val := Elt F) _ L fun hm => h ?_
    have := (Rect.mem_set_unit (inb := cRect_inb pr)).mp hm 0
    have h1 : (pr : ℕ) ≤ j0 := this.1
    have h2 : (j0 : ℕ) < pr + 1 := this.2
    exact Fin.ext (by omega)

/-- A load of a pair's box after stores reads that box of what the stores left. -/
theorem getC_eq (M : Memref sig .tc .vmem S4x128x256 .f32) (L : CL F) (pr : Fin 4) : getC M L pr = boxC (View.canon L) pr := by
  unfold getC
  rw [View.readCov_eq_canon']
  funext x; idx_vars x
  refine congrArg (View.canon L) ?_
  funext a
  apply Fin.ext
  refine (Rect.idx_unit_val (s := S4x128x256) ![(pr : ℕ), 0, 0] S1x128x256.size (cRect_inb pr) (ix3 x0 x1 x2) a).trans ?_
  fin_cases a
  · show (pr : ℕ) + x0 = pr; omega
  · show 0 + (x1 : ℕ) = x1; omega
  · show 0 + (x2 : ℕ) = x2; omega

/-- A load of a pair's box from a whole buffer reads that box of its contents. -/
theorem cRd_eq (M : Memref sig .tc .vmem S4x128x256 .f32) (hM : M.IsWhole) (X : FVec F S4x128x256 .f32) (pr : Fin 4) :
    cRd M hM X pr = boxC X pr := by
  unfold cRd
  rw [View.readAt_eq_ld, hM.read_unread]
  funext x; idx_vars x
  refine congrArg X ?_
  funext a
  apply Fin.ext
  refine (Rect.idx_unit_val (s := S4x128x256) ![(pr : ℕ), 0, 0] S1x128x256.size (cRect_inb pr) (ix3 x0 x1 x2) a).trans ?_
  fin_cases a
  · show (pr : ℕ) + x0 = pr; omega
  · show 0 + (x1 : ℕ) = x1; omega
  · show 0 + (x2 : ℕ) = x2; omega

/-- After all four pairs are stored the buffer is their assembly. -/
theorem canon_setC (w : Fin 4 → FVec F S1x128x256 .f32) (L : CL F) : View.canon (setC w L) = asmC w := by
  funext j; idx_vars j
  unfold setC setC1
  simp only [canon_c]
  fin_cases j0 <;> rfl

/-- An earlier pair's store leaves a later pair's box as it was. -/
theorem boxC_updC1 (M : Memref sig .tc .vmem S4x128x256 .f32) (w : Fin 4 → FVec F S1x128x256 .f32 → FVec F S1x128x256 .f32)
    (a b : Fin 4) (h : b ≠ a) (L : CL F) : boxC (View.canon (updC1 M w a L)) b = boxC (View.canon L) b := by
  funext x; idx_vars x
  unfold boxC updC1
  simp only [ix3_1, ix3_2]
  rw [canon_c, if_neg h]

/-- After all four pairs are updated each box is the update of the box before. -/
theorem canon_updC (M : Memref sig .tc .vmem S4x128x256 .f32) (w : Fin 4 → FVec F S1x128x256 .f32 → FVec F S1x128x256 .f32) (L : CL F) :
    View.canon (updC M w L) = asmC fun pr => w pr (boxC (View.canon L) pr) := by
  funext j; idx_vars j
  unfold updC
  rw [updC1, canon_c, getC_eq, boxC_updC1 _ _ _ _ (by decide), boxC_updC1 _ _ _ _ (by decide), boxC_updC1 _ _ _ _ (by decide)]
  rw [updC1, canon_c, getC_eq, boxC_updC1 _ _ _ _ (by decide), boxC_updC1 _ _ _ _ (by decide)]
  rw [updC1, canon_c, getC_eq, boxC_updC1 _ _ _ _ (by decide)]
  rw [updC1, canon_c, getC_eq]
  fin_cases j0 <;> rfl

/-- When a pair is read for its update, the earlier pairs' stores have left its box as it was. -/
theorem boxC_updCs (M : Memref sig .tc .vmem S4x128x256 .f32) (w : Fin 4 → FVec F S1x128x256 .f32 → FVec F S1x128x256 .f32) (L : CL F)
    (pr : Fin 4) : getC M (updCs M w L pr) pr = boxC (View.canon L) pr := by
  rw [getC_eq]
  match pr with
  | 0 => rfl
  | 1 => exact boxC_updC1 M w 0 1 (by decide) L
  | 2 => exact (boxC_updC1 M w 1 2 (by decide) _).trans (boxC_updC1 M w 0 2 (by decide) L)
  | 3 => exact (boxC_updC1 M w 2 3 (by decide) _).trans ((boxC_updC1 M w 1 3 (by decide) _).trans (boxC_updC1 M w 0 3 (by decide) L))

/-! ## The summed keys -/

/-- Where a pair's row lies in the array of summed keys. -/
theorem nRect_emb (pr : Fin 4) (j1 : Fin 128) :
    (nRect pr).emb (ix2 (n0 := 1) (n1 := 128) 0 j1) = ix2 (n0 := 8) (n1 := 128) ⟨(pr : ℕ), by omega⟩ j1 := by
  funext a
  apply Fin.ext
  refine (Rect.idx_unit_val (s := S8x128) ![(pr : ℕ), 0] S1x128.size (nRect_inb pr) (ix2 (n0 := 1) (n1 := 128) 0 j1) a).trans ?_
  fin_cases a
  · show (pr : ℕ) + 0 = pr; omega
  · show 0 + (j1 : ℕ) = j1; omega

/-- The same of the row's index map. -/
theorem nRect_idx (pr : Fin 4) (x0 : Fin 1) (x1 : Fin 128) :
    (nRect pr).idx (ix2 (n0 := 1) (n1 := 128) x0 x1) = ix2 (n0 := 8) (n1 := 128) ⟨(pr : ℕ), by omega⟩ x1 := by
  rw [Subsingleton.elim x0 0]; exact nRect_emb pr x1

/-- No other row lies in a pair's row. -/
theorem not_mem_nRect (pr : Fin 4) (j0 : Fin 8) (j1 : Fin 128) (h : (j0 : ℕ) ≠ pr) :
    ix2 (n0 := 8) (n1 := 128) j0 j1 ∉ (nRect pr).set := fun hm => h (by
  have := (Rect.mem_set_unit (inb := nRect_inb pr)).mp hm 0
  have h1 : (pr : ℕ) ≤ j0 := this.1
  have h2 : (j0 : ℕ) < pr + 1 := this.2
  omega)

/-- A load of a pair's row after stores reads that row of what the stores left. -/
theorem getN_eq (M : Memref sig .tc .vmem S8x128 .f32) (L : NL F) (pr : Fin 4) : getN M L pr = boxN (View.canon L) pr := by
  unfold getN
  rw [View.readCov_eq_canon']
  funext x; idx_vars x
  exact congrArg (View.canon L) (nRect_idx pr x0 x1)

/-- A load of the maxima after stores reads row zero of what the stores left. -/
theorem mGet_eq (M : Memref sig .tc .vmem S8x128 .f32) (L : NL F) : mGet M L = boxN (View.canon L) 0 := getN_eq M L 0

/-- A load of a pair's row from a whole buffer reads that row of its contents. -/
theorem nRd_eq (M : Memref sig .tc .vmem S8x128 .f32) (hM : M.IsWhole) (X : FVec F S8x128 .f32) (pr : Fin 4) :
    nRd M hM X pr = boxN X pr := by
  unfold nRd
  rw [View.readAt_eq_ld, hM.read_unread]
  funext x; idx_vars x
  exact congrArg X (nRect_idx pr x0 x1)

/-- A load of the maxima from a whole buffer reads row zero of its contents. -/
theorem mRd_eq (M : Memref sig .tc .vmem S8x128 .f32) (hM : M.IsWhole) (X : FVec F S8x128 .f32) : mRd M hM X = boxN X 0 :=
  nRd_eq M hM X 0

/-- A pair's row after one more row is stored. -/
theorem boxN_cons (a b : Fin 4) (w : FVec F S1x128 .f32) (L : NL F) :
    boxN (View.canon ((⟨nRect a, w⟩ : View.Piece (Elt F) S8x128 .f32) :: L)) b = if b = a then w else boxN (View.canon L) b := by
  funext x; idx_vars x
  split
  · rename_i h
    subst h
    unfold boxN
    rw [ix2_1, ← nRect_emb, Subsingleton.elim x0 0]
    exact View.canon_cons_emb (Val := Elt F) (nRect b) w L _
  · rename_i h
    exact View.canon_cons_of_not_mem (Val := Elt F) _ L (not_mem_nRect a _ _ fun e => h (Fin.ext e))

/-- After all four pairs are stored each row is the one stored. -/
theorem boxN_setN (w : Fin 4 → FVec F S1x128 .f32) (L : NL F) (pr : Fin 4) : boxN (View.canon (setN w L)) pr = w pr := by
  unfold setN setN1
  simp only [boxN_cons]
  fin_cases pr <;> rfl

/-- Another pair's update leaves a pair's row as it was. -/
theorem boxN_updN1 (M : Memref sig .tc .vmem S8x128 .f32) (w : Fin 4 → FVec F S1x128 .f32 → FVec F S1x128 .f32)
    (a b : Fin 4) (h : b ≠ a) (L : NL F) : boxN (View.canon (updN1 M w a L)) b = boxN (View.canon L) b := by
  unfold updN1; rw [boxN_cons, if_neg h]

/-- After all four pairs are updated each row is the update of the row before. -/
theorem boxN_updN (M : Memref sig .tc .vmem S8x128 .f32) (w : Fin 4 → FVec F S1x128 .f32 → FVec F S1x128 .f32) (L : NL F) (pr : Fin 4) :
    boxN (View.canon (updN M w L)) pr = w pr (boxN (View.canon L) pr) := by
  unfold updN
  rw [updN1, boxN_cons, getN_eq, boxN_updN1 _ _ _ _ (by decide), boxN_updN1 _ _ _ _ (by decide), boxN_updN1 _ _ _ _ (by decide)]
  rw [updN1, boxN_cons, getN_eq, boxN_updN1 _ _ _ _ (by decide), boxN_updN1 _ _ _ _ (by decide)]
  rw [updN1, boxN_cons, getN_eq, boxN_updN1 _ _ _ _ (by decide)]
  rw [updN1, boxN_cons, getN_eq]
  fin_cases pr <;> rfl

/-- When a pair is read for its update, the earlier pairs' stores have left its row as it was. -/
theorem boxN_updNs (M : Memref sig .tc .vmem S8x128 .f32) (w : Fin 4 → FVec F S1x128 .f32 → FVec F S1x128 .f32) (L : NL F)
    (pr : Fin 4) : getN M (updNs M w L pr) pr = boxN (View.canon L) pr := by
  rw [getN_eq]
  match pr with
  | 0 => rfl
  | 1 => exact boxN_updN1 M w 0 1 (by decide) L
  | 2 => exact (boxN_updN1 M w 1 2 (by decide) _).trans (boxN_updN1 M w 0 2 (by decide) L)
  | 3 => exact (boxN_updN1 M w 2 3 (by decide) _).trans ((boxN_updN1 M w 1 3 (by decide) _).trans (boxN_updN1 M w 0 3 (by decide) L))

/-- A whole store of the maxima leaves what was stored. -/
theorem canon_mPut (w : FVec F S8x128 .f32) (L : NL F) : View.canon (mPut w L) = w :=
  View.canon_cons_unit_lit (Val := Elt F) (S := S8x128) _ _ _ (by decide)

/-- A row written over another buffer's contents. -/
theorem boxN_writes (M : Memref sig .tc .vmem S8x128 .f32) (f) (w : Fin 4 → FVec F S1x128 .f32 → FVec F S1x128 .f32) (L : NL F) (pr : Fin 4) :
    boxN (M.view.read (Elt F) (M.view.writes (Elt F) f (updN M w L))) pr = boxN (View.canon (updN M w L)) pr := by
  funext x; idx_vars x
  refine View.read_writes_apply_eq_canon (Val := Elt F) M.view f _ _ ?_
  have hm : ∀ pr : Fin 4, ix2 (n0 := 8) (n1 := 128) ⟨(pr : ℕ), by omega⟩ x1 ∈ (nRect pr).set := fun pr => by

    refine Rect.mem_set_unit.mpr fun a => ?_
    fin_cases a
    · exact ⟨le_refl (pr : ℕ), Nat.lt_succ_self (pr : ℕ)⟩
    · exact ⟨Nat.zero_le _, by show (x1 : ℕ) < 0 + 128; omega⟩
  match pr with
  | 0 => exact ⟨_, List.Mem.tail _ (List.Mem.tail _ (List.Mem.tail _ (List.Mem.head _))), hm 0⟩
  | 1 => exact ⟨_, List.Mem.tail _ (List.Mem.tail _ (List.Mem.head _)), hm 1⟩
  | 2 => exact ⟨_, List.Mem.tail _ (List.Mem.head _), hm 2⟩
  | 3 => exact ⟨_, List.Mem.head _, hm 3⟩

/-! ## The heads' outputs -/

/-- The heads' outputs side by side, the two chunks below each other. -/
def asmH (w : Fin 2 → Fin 4 → Fin 2 → FVec F S256x128 .bf16) : FVec F S512x1024 .bf16 :=
  fun j => w ⟨(j 0 : ℕ) / 256, by have : (j 0 : ℕ) < 512 := (j 0).isLt; omega⟩ ⟨(j 1 : ℕ) / 256, by have : (j 1 : ℕ) < 1024 := (j 1).isLt; omega⟩
    ⟨(j 1 : ℕ) / 128 % 2, by omega⟩ (ix2 (n0 := 256) (n1 := 128) ⟨(j 0 : ℕ) % 256, by omega⟩ ⟨(j 1 : ℕ) % 128, by omega⟩)

/-- An entry of the heads' outputs after one more store: inside the stored block the new value, elsewhere as before. -/
theorem canon_h (ch : Fin 2) (pr : Fin 4) (sb : Fin 2) (w : FVec F S256x128 .bf16) (L : HL F) (j0 : Fin 512) (j1 : Fin 1024) :
    View.canon ((⟨hRect ch pr sb, w⟩ : View.Piece (Elt F) S512x1024 .bf16) :: L) (ix2 (n0 := 512) (n1 := 1024) j0 j1)
      = if (j0 : ℕ) / 256 = ch ∧ (j1 : ℕ) / 128 = hd pr sb then
          w (ix2 (n0 := 256) (n1 := 128) ⟨(j0 : ℕ) % 256, by omega⟩ ⟨(j1 : ℕ) % 128, by omega⟩)
        else View.canon L (ix2 (n0 := 512) (n1 := 1024) j0 j1) := by
  split
  · rename_i h
    have e : ix2 (n0 := 512) (n1 := 1024) j0 j1
        = (hRect ch pr sb).emb (ix2 (n0 := 256) (n1 := 128) ⟨(j0 : ℕ) % 256, by omega⟩ ⟨(j1 : ℕ) % 128, by omega⟩) := by
      funext a
      apply Fin.ext
      have := Rect.idx_unit_val (s := S512x1024) ![256 * (ch : ℕ), 128 * hd pr sb] S256x128.size (hRect_inb ch pr sb)
        (ix2 (n0 := 256) (n1 := 128) ⟨(j0 : ℕ) % 256, by omega⟩ ⟨(j1 : ℕ) % 128, by omega⟩) a
      refine Eq.trans ?_ this.symm
      fin_cases a
      · show (j0 : ℕ) = 256 * (ch : ℕ) + (j0 : ℕ) % 256; omega
      · show (j1 : ℕ) = 128 * hd pr sb + (j1 : ℕ) % 128; omega
    rw [e]
    exact View.canon_cons_emb (Val := Elt F) (hRect ch pr sb) w L _
  · rename_i h
    refine View.canon_cons_of_not_mem (Val := Elt F) _ L fun hm => h ?_
    have h0 := (Rect.mem_set_unit (inb := hRect_inb ch pr sb)).mp hm 0
    have h1 := (Rect.mem_set_unit (inb := hRect_inb ch pr sb)).mp hm 1
    have h00 : 256 * (ch : ℕ) ≤ j0 := h0.1
    have h01 : (j0 : ℕ) < 256 * (ch : ℕ) + 256 := h0.2
    have h10 : 128 * hd pr sb ≤ j1 := h1.1
    have h11 : (j1 : ℕ) < 128 * hd pr sb + 128 := h1.2
    omega

/-- After both chunks' stores of all heads a load of the whole buffer reads their assembly. -/
theorem hGet_eq (M : Memref sig .tc .vmem S512x1024 .bf16) (w : Fin 2 → Fin 4 → Fin 2 → FVec F S256x128 .bf16) :
    hGet M (setH 1 (w 1) (setH 0 (w 0) [])) = asmH w := by
  unfold hGet
  rw [View.readCov_eq_canon']
  funext x; idx_vars x
  have e : (Rect.unit (s := S512x1024) ![0, 0] S512x1024.size inb_S512x1024_S512x1024_0_0).idx (ix2 x0 x1) = ix2 x0 x1 := by
    funext a
    apply Fin.ext
    refine (Rect.idx_unit_val (s := S512x1024) ![0, 0] S512x1024.size inb_S512x1024_S512x1024_0_0 (ix2 x0 x1) a).trans ?_
    fin_cases a
    · show 0 + (x0 : ℕ) = x0; omega
    · show 0 + (x1 : ℕ) = x1; omega
  refine (congrArg (View.canon _) e).trans ?_
  simp only [setH, setH1, canon_h]
  unfold asmH
  simp only [ix2_0, ix2_1]
  obtain ⟨p, hp⟩ : ∃ p : Fin 2, (x0 : ℕ) / 256 = p := ⟨⟨(x0 : ℕ) / 256, by omega⟩, rfl⟩
  obtain ⟨q, hq⟩ : ∃ q : Fin 8, (x1 : ℕ) / 128 = q := ⟨⟨(x1 : ℕ) / 128, by omega⟩, rfl⟩
  have hq2 : (x1 : ℕ) / 256 = (q : ℕ) / 2 := by omega
  simp only [hp, hq, hq2]
  fin_cases p <;> fin_cases q <;> rfl

end Cert.Tile

end
-- ==== Proof.StepK.lean ====
/- One grid point as a step of the carried state: the states, the summed keys and the maxima after it over those before
   it, the rows handed to the feed-forward, and the feed-forward of the rows of the point before. -/
module

public import proofs.«01_k».proof.Proof.After

@[expose] public section

set_option maxRecDepth 16384

noncomputable section

namespace Cert.StepK

open Cert.KernelIdeal Cert.KernelIdeal.Gen Idealize.ShloMosaic Idealize.ShloMosaic.TcCoe Cert.Tile Cert.Match

variable {F : FTy → Type} [FloatOps F]

/-- Row zero of the maxima stored is the new maximum. -/
theorem boxN_mout (g : FVec F S512x256 .f32) (ch : Fin 2) (mp : FVec F S1x128 .f32) : boxN (mout g ch mp) 0 = mnew g ch mp := by
  funext x; idx_vars x
  unfold boxN mout
  generalize mnew g ch mp = y
  pointwise
  rw [Subsingleton.elim x0 0]

variable (m : (ℓ : Loc nD τ sig) → Buf (Elt F) ℓ) (c : Dev nD) (t : Fin cfg0.N)

/-- The gates and the projections of a grid point's tile, from its input blocks. -/
def G : FVec F S512x256 .f32 := k0_pay273 (k0_pay271 (iblk m c 0 t) (iblk m c 1 t)) (iblk m c 5 t) (iblk m c 6 t)
/-- The wide projections of a grid point's tile, from its input blocks. -/
def U : FVec F S512x3072 .f32 := k0_pay274 (k0_pay271 (iblk m c 0 t) (iblk m c 1 t)) (iblk m c 3 t) (iblk m c 4 t)

/-- The tile read is the input's block. -/
theorem X0_eq : X0 m c t = iblk m c 0 t := by
  unfold X0 rb3
  rw [View.readAt_eq_ld, (hs0_0 t).read_unread]
  exact View.ld_unit_lit (S := S1x512x1024) _ _ (by decide)

/-- The gates read are those of the input blocks. -/
theorem gB_eq : gB m c t = G m c t := by
  unfold gB hB G; rw [X0_eq]; simp only [rd2_eq]
/-- The projections read are those of the input blocks. -/
theorem uB_eq : uB m c t = U m c t := by
  unfold uB hB U; rw [X0_eq]; simp only [rd2_eq]

/-! ## What a point leaves, from the state before it -/

section pure

variable (u : FVec F S512x3072 .f32) (g : FVec F S512x256 .f32) (hg : FVec F S1x1024 .f32)
  (C : Fin 4 → FVec F S1x128x256 .f32) (N : Fin 4 → FVec F S1x128 .f32) (M : FVec F S1x128 .f32)

/-- The maxima after the first chunk and after the second. -/
def m1 : FVec F S1x128 .f32 := mnew g 0 M
/-- The maxima after the second chunk. -/
def m2 : FVec F S1x128 .f32 := mnew g 1 (m1 g M)
/-- A pair's matrix state after the first chunk. -/
def c1 (pr : Fin 4) : FVec F S1x128x256 .f32 := cNew u g 0 M pr (C pr)
/-- A pair's matrix state after the second chunk. -/
def c2 (pr : Fin 4) : FVec F S1x128x256 .f32 := cNew u g 1 (m1 g M) pr (c1 u g C M pr)
/-- A pair's summed keys after the first chunk. -/
def n1 (pr : Fin 4) : FVec F S1x128 .f32 := nNew u g 0 M pr (N pr)
/-- A pair's summed keys after the second chunk. -/
def n2 (pr : Fin 4) : FVec F S1x128 .f32 := nNew u g 1 (m1 g M) pr (n1 u g N M pr)
/-- The heads' outputs of the tile. -/
def hs : FVec F S512x1024 .bf16 :=
  asmH fun ch => ![fun pr sb => gated u 0 pr hg sb (Tile.hh u g 0 M pr sb (C pr) (N pr)),
    fun pr sb => gated u 1 pr hg sb (Tile.hh u g 1 (m1 g M) pr sb (c1 u g C M pr) (n1 u g N M pr))] ch

end pure

/-- The carried states before the point: zero at a batch's first tile. -/
def Cz (pr : Fin 4) : FVec F S1x128x256 .f32 := boxC k0_pay1 pr
/-- A pair's summed keys at a batch's first tile. -/
def Nz (pr : Fin 4) : FVec F S1x128 .f32 := boxN k0_pay2 pr
/-- The maxima at a batch's first tile. -/
def Mz : FVec F S1x128 .f32 := boxN k0_pay3 0

/-- What the point leaves, as one function of the state before it. -/
structure Leaves (C : Fin 4 → FVec F S1x128x256 .f32) (N : Fin 4 → FVec F S1x128 .f32) (M : FVec F S1x128 .f32) : Prop where
  hc : ∀ pr, boxC (outsAt0 m c t.val t.isLt).2.1 pr = c2 (U m c t) (G m c t) C M pr
  hn : ∀ pr, boxN (outsAt0 m c t.val t.isLt).2.2.1 pr = n2 (U m c t) (G m c t) N M pr
  hm : boxN (outsAt0 m c t.val t.isLt).2.2.2.1 0 = m2 (G m c t) M
  hmid : (outsAt0 m c t.val t.isLt).2.2.2.2
    = Tile.mid (hs (U m c t) (G m c t) (iblk m c 7 t) C N M) (iblk m c 0 t) (iblk m c 2 t) (iblk m c 8 t)

/-- Within a batch the maxima start from those the point before left. -/
theorem mp0B_eq : mp0B m c t = boxN (prevO m c t).2.2.2.1 0 := mRd_eq _ _ _
/-- Within a batch the second chunk's maxima start from the first's. -/
theorem mp1B_eq : mp1B m c t = m1 (G m c t) (boxN (prevO m c t).2.2.2.1 0) := by
  unfold mp1B mL0B m1; rw [mGet_eq, canon_mPut, boxN_mout, mp0B_eq, gB_eq]
/-- At a batch's first tile the maxima start from zero. -/
theorem mp0Z_eq : mp0Z = (Mz : FVec F S1x128 .f32) := by
  unfold mp0Z Mz mZ; rw [mGet_eq]
  exact congrArg (fun X => boxN X 0) (View.canon_cons_unit_lit (Val := Elt F) (S := S8x128) _ _ _ (by decide))
/-- At a batch's first tile the second chunk's maxima start from the first's. -/
theorem mp1Z_eq : mp1Z m c t = m1 (G m c t) Mz := by
  unfold mp1Z mL0Z m1; rw [mGet_eq, canon_mPut, boxN_mout, mp0Z_eq, gB_eq]
/-- The matrix states' start is zero. -/
theorem canon_cZ : View.canon (cZ : CL F) = k0_pay1 :=
  View.canon_cons_unit_lit (Val := Elt F) (S := S4x128x256) _ _ _ (by decide)
/-- The summed keys' start is zero. -/
theorem canon_nZ : View.canon (nZ : NL F) = k0_pay2 :=
  View.canon_cons_unit_lit (Val := Elt F) (S := S8x128) _ _ _ (by decide)

/-- Within a batch, the matrix states after the first chunk. -/
theorem cL0B_eq : View.canon (cL0B m c t) = asmC (c1 (U m c t) (G m c t) (boxC (prevO m c t).2.1) (boxN (prevO m c t).2.2.2.1 0)) := by
  unfold cL0B c1; rw [canon_setC, uB_eq, gB_eq, mp0B_eq]; simp only [cRd_eq]
/-- At a batch's first tile, the matrix states after the first chunk. -/
theorem cL0Z_eq : View.canon (cL0Z m c t) = asmC (c1 (U m c t) (G m c t) Cz Mz) := by
  unfold cL0Z c1 Cz; rw [canon_updC, uB_eq, gB_eq, mp0Z_eq, canon_cZ]
/-- Within a batch, the summed keys after the first chunk. -/
theorem nL0B_eq (pr : Fin 4) : boxN (View.canon (nL0B m c t)) pr
    = n1 (U m c t) (G m c t) (boxN (prevO m c t).2.2.1) (boxN (prevO m c t).2.2.2.1 0) pr := by
  unfold nL0B n1; rw [boxN_setN, uB_eq, gB_eq, mp0B_eq]; simp only [nRd_eq]
/-- At a batch's first tile, the summed keys after the first chunk. -/
theorem nL0Z_eq (pr : Fin 4) : boxN (View.canon (nL0Z m c t)) pr = n1 (U m c t) (G m c t) Nz Mz pr := by
  unfold nL0Z n1 Nz; rw [boxN_updN, uB_eq, gB_eq, mp0Z_eq, canon_nZ]

/-- Within a batch, the matrix states after the second chunk. -/
theorem cL1B_eq (pr : Fin 4) : boxC (View.canon (cL1B m c t)) pr
    = c2 (U m c t) (G m c t) (boxC (prevO m c t).2.1) (boxN (prevO m c t).2.2.2.1 0) pr := by
  unfold cL1B c2; rw [canon_updC, boxC_asmC, uB_eq, gB_eq, mp1B_eq, cL0B_eq, boxC_asmC]
/-- At a batch's first tile, the matrix states after the second chunk. -/
theorem cL1Z_eq (pr : Fin 4) : boxC (View.canon (cL1Z m c t)) pr = c2 (U m c t) (G m c t) Cz Mz pr := by
  unfold cL1Z c2; rw [canon_updC, boxC_asmC, uB_eq, gB_eq, mp1Z_eq, cL0Z_eq, boxC_asmC]
/-- Within a batch, the summed keys after the second chunk. -/
theorem nL1B_eq (pr : Fin 4) : boxN (View.canon (nL1B m c t)) pr
    = n2 (U m c t) (G m c t) (boxN (prevO m c t).2.2.1) (boxN (prevO m c t).2.2.2.1 0) pr := by
  unfold nL1B n2; rw [boxN_updN, uB_eq, gB_eq, mp1B_eq, nL0B_eq]
/-- At a batch's first tile, the summed keys after the second chunk. -/
theorem nL1Z_eq (pr : Fin 4) : boxN (View.canon (nL1Z m c t)) pr = n2 (U m c t) (G m c t) Nz Mz pr := by
  unfold nL1Z n2; rw [boxN_updN, uB_eq, gB_eq, mp1Z_eq, nL0Z_eq]
/-- Within a batch, the maxima after the second chunk. -/
theorem mL1B_eq : boxN (View.canon (mL1B m c t)) 0 = m2 (G m c t) (boxN (prevO m c t).2.2.2.1 0) := by
  unfold mL1B m2; rw [canon_mPut, boxN_mout, mp1B_eq, gB_eq]
/-- At a batch's first tile, the maxima after the second chunk. -/
theorem mL1Z_eq : boxN (View.canon (mL1Z m c t)) 0 = m2 (G m c t) Mz := by
  unfold mL1Z m2; rw [canon_mPut, boxN_mout, mp1Z_eq, gB_eq]

/-- Within a batch, the heads' outputs of the tile. -/
theorem hLB_eq : hGet scM0_3 (hLB m c t (cLsB m c t) (nLsB m c t))
    = hs (U m c t) (G m c t) (iblk m c 7 t) (boxC (prevO m c t).2.1) (boxN (prevO m c t).2.2.1) (boxN (prevO m c t).2.2.2.1 0) := by
  refine (hGet_eq scM0_3 ![out0B m c t, fun pr => out1cB m c t pr (cLsB m c t pr) (nLsB m c t pr)]).trans ?_
  unfold hs
  refine congrArg asmH (funext fun ch => ?_)
  have e0 : out0B m c t = fun pr sb => gated (U m c t) 0 pr (iblk m c 7 t) sb (Tile.hh (U m c t) (G m c t) 0 (boxN (prevO m c t).2.2.2.1 0)
      pr sb (boxC (prevO m c t).2.1 pr) (boxN (prevO m c t).2.2.1 pr)) := by
    funext pr sb; unfold out0B; rw [uB_eq, gB_eq, mp0B_eq, rd2_eq, cRd_eq, nRd_eq]
  have e1 : (fun pr => out1cB m c t pr (cLsB m c t pr) (nLsB m c t pr)) = fun pr sb => gated (U m c t) 1 pr (iblk m c 7 t) sb
      (Tile.hh (U m c t) (G m c t) 1 (m1 (G m c t) (boxN (prevO m c t).2.2.2.1 0)) pr sb
        (c1 (U m c t) (G m c t) (boxC (prevO m c t).2.1) (boxN (prevO m c t).2.2.2.1 0) pr)
        (n1 (U m c t) (G m c t) (boxN (prevO m c t).2.2.1) (boxN (prevO m c t).2.2.2.1 0) pr)) := by
    funext pr sb; unfold out1cB cLsB nLsB
    rw [uB_eq, gB_eq, mp1B_eq, rd2_eq, boxC_updCs, boxN_updNs, cL0B_eq, boxC_asmC, nL0B_eq]
  rw [e0, e1]

/-- At a batch's first tile, the heads' outputs of the tile. -/
theorem hLZ_eq : hGet scM0_3 (hLZ m c t (cLsZ m c t) (nLsZ m c t)) = hs (U m c t) (G m c t) (iblk m c 7 t) Cz Nz Mz := by
  refine (hGet_eq scM0_3 ![fun pr => out0Z m c t pr (cLs0 m c t pr) (nLs0 m c t pr),
    fun pr => out1cZ m c t pr (cLsZ m c t pr) (nLsZ m c t pr)]).trans ?_
  unfold hs
  refine congrArg asmH (funext fun ch => ?_)
  have e0 : (fun pr => out0Z m c t pr (cLs0 m c t pr) (nLs0 m c t pr)) = fun pr sb => gated (U m c t) 0 pr (iblk m c 7 t) sb
      (Tile.hh (U m c t) (G m c t) 0 Mz pr sb (Cz pr) (Nz pr)) := by
    funext pr sb; unfold out0Z cLs0 nLs0 Cz Nz; rw [uB_eq, gB_eq, mp0Z_eq, rd2_eq, boxC_updCs, boxN_updNs, canon_cZ, canon_nZ]
  have e1 : (fun pr => out1cZ m c t pr (cLsZ m c t pr) (nLsZ m c t pr)) = fun pr sb => gated (U m c t) 1 pr (iblk m c 7 t) sb
      (Tile.hh (U m c t) (G m c t) 1 (m1 (G m c t) Mz) pr sb (c1 (U m c t) (G m c t) Cz Mz pr) (n1 (U m c t) (G m c t) Nz Mz pr)) := by
    funext pr sb; unfold out1cZ cLsZ nLsZ
    rw [uB_eq, gB_eq, mp1Z_eq, rd2_eq, boxC_updCs, boxN_updNs, cL0Z_eq, boxC_asmC, nL0Z_eq]
  rw [e0, e1]

/-- A batch's first tile leaves its step from zero. -/
theorem leaves_first (hr : t.val % 4 = 0) (h64 : t.val ≠ 64) : Leaves m c t Cz Nz Mz := by
  have hN : t.val < 65 := lt_of_lt_of_eq t.isLt N_0
  have e65 : t.val % 65 = t.val := Nat.mod_eq_of_lt hN
  have h0 : (t.val % 65 = 0 ∨ t.val % 65 = 4 ∨ t.val % 65 = 8 ∨ t.val % 65 = 12 ∨ t.val % 65 = 16 ∨ t.val % 65 = 20 ∨ t.val % 65 = 24 ∨ t.val % 65 = 28 ∨ t.val % 65 = 32 ∨ t.val % 65 = 36 ∨ t.val % 65 = 40 ∨ t.val % 65 = 44 ∨ t.val % 65 = 48 ∨ t.val % 65 = 52 ∨ t.val % 65 = 56 ∨ t.val % 65 = 60) := by rw [e65]; omega
  have h2 : ¬t.val % 65 = 64 := by omega
  by_cases h1 : t.val % 65 = 0
  · have h3 : ¬(1 ≤ t.val % 65 ∧ t.val % 65 ≤ 63) := by omega
    constructor
    · intro pr; rw [c_eq_A m c t h0 h1 h2 h3, cL1Z_eq]
    · intro pr; rw [n_eq_A m c t h0 h1 h2 h3, nL1Z_eq]
    · rw [m_eq_A m c t h0 h1 h2 h3, mL1Z_eq]
    · rw [mid_eq_A m c t h0 h1 h2 h3]; unfold mdZ; rw [hLZ_eq, X0_eq, rd2_eq, rd2_eq]
  · have h3 : (1 ≤ t.val % 65 ∧ t.val % 65 ≤ 63) := by omega
    constructor
    · intro pr; rw [c_eq_C m c t h0 h1 h2 h3, cL1Z_eq]
    · intro pr; rw [n_eq_C m c t h0 h1 h2 h3, nL1Z_eq]
    · rw [m_eq_C m c t h0 h1 h2 h3, mL1Z_eq]
    · rw [mid_eq_C m c t h0 h1 h2 h3]; unfold mdZ; rw [hLZ_eq, X0_eq, rd2_eq, rd2_eq]

/-- A later tile leaves its step from what the point before left. -/
theorem leaves_next (hr : t.val % 4 ≠ 0) : Leaves m c t (boxC (prevO m c t).2.1) (boxN (prevO m c t).2.2.1) (boxN (prevO m c t).2.2.2.1 0) := by
  have hN : t.val < 65 := lt_of_lt_of_eq t.isLt N_0
  have e65 : t.val % 65 = t.val := Nat.mod_eq_of_lt hN
  have h0 : ¬(t.val % 65 = 0 ∨ t.val % 65 = 4 ∨ t.val % 65 = 8 ∨ t.val % 65 = 12 ∨ t.val % 65 = 16 ∨ t.val % 65 = 20 ∨ t.val % 65 = 24 ∨ t.val % 65 = 28 ∨ t.val % 65 = 32 ∨ t.val % 65 = 36 ∨ t.val % 65 = 40 ∨ t.val % 65 = 44 ∨ t.val % 65 = 48 ∨ t.val % 65 = 52 ∨ t.val % 65 = 56 ∨ t.val % 65 = 60) := by rw [e65]; omega
  have h1 : ¬t.val % 65 = 0 := by omega
  have h2 : ¬t.val % 65 = 64 := by omega
  have h3 : (1 ≤ t.val % 65 ∧ t.val % 65 ≤ 63) := by omega
  constructor
  · intro pr; rw [c_eq_B m c t h0 h1 h2 h3, cL1B_eq]
  · intro pr; rw [n_eq_B m c t h0 h1 h2 h3]; unfold nL1B; rw [boxN_writes]; exact nL1B_eq m c t pr
  · rw [m_eq_B m c t h0 h1 h2 h3, mL1B_eq]
  · rw [mid_eq_B m c t h0 h1 h2 h3]; unfold mdB; rw [hLB_eq, X0_eq, rd2_eq, rd2_eq]

/-- Every point after the first writes the feed-forward of the rows the point before handed over. -/
theorem out_eq (h1 : t.val ≠ 0) : (outsAt0 m c t.val t.isLt).1 = ffnB m c t := by
  have hN : t.val < 65 := lt_of_lt_of_eq t.isLt N_0
  have e65 : t.val % 65 = t.val := Nat.mod_eq_of_lt hN
  have h1' : ¬t.val % 65 = 0 := by omega
  by_cases h2 : t.val % 65 = 64
  · exact out_eq_D m c t (by omega) h1' h2 (by omega)
  · by_cases h0 : t.val % 4 = 0
    · exact out_eq_C m c t (by rw [e65]; omega) h1' h2 (by omega)
    · exact out_eq_B m c t (by rw [e65]; omega) h1' h2 (by omega)

end Cert.StepK

end
-- ==== Proof.KernelBlocks.lean ====
/- What the kernel's windows hold at each grid point, over the values of its arguments. -/
module

public import proofs.«01_k».proof.Proof.StepK
public import proofs.«01_k».proof.Proof.Spec
public import Idealize.ShloMosaic.Lib.StableHlo.ReadAt
public import Idealize.ShloMosaic.Lib.Pipeline.ValueKit
public import Idealize.ShloMosaic.Lib.Routing.OpsSet
public import Idealize.ShloMosaic.Lib.Routing.OpsOne

@[expose] public section

set_option maxRecDepth 16384

noncomputable section

namespace Cert.KernelBlocks

open Idealize.ShloMosaic Idealize.ShloMosaic.TcCoe Idealize.ShloMosaic.StableHlo
open Idealize.SL.Sem Cert.KernelIdeal Cert.KernelIdeal.Gen Cert.Spec Cert.Chunk

variable (m : (ℓ : Loc nD τ sig) → Buf (Elt Ideal) ℓ) (c : Dev nD)

/-- The block of the input at a point: the batch and the tile, the last tile again at the last point. -/
theorem idx_x : ∀ t : Fin cfg0.N, win0_0.index t = ![(min t.val 63) / 4, (min t.val 63) % 4, 0] := by decide +kernel
/-- The block of the output at a point: the batch and the tile of the point before. -/
theorem idx_out : ∀ t : Fin cfg0.N, win0_14.index t = ![(t.val - 1) / 4, (t.val - 1) % 4, 0] := by decide +kernel
/-- Every other input is one block at every point, the second layer's of the stacked weights. -/
theorem idx_r : ∀ t : Fin cfg0.N, win0_1.index t = ![0, 0] ∧ win0_2.index t = ![0, 0] ∧ win0_3.index t = ![0, 0] ∧
    win0_4.index t = ![0, 0] ∧ win0_5.index t = ![0, 0] ∧ win0_6.index t = ![0, 0] ∧ win0_7.index t = ![0, 0] ∧
    win0_8.index t = ![0, 0] ∧ win0_9.index t = ![0, 0] ∧ win0_10.index t = ![0, 0] ∧ win0_11.index t = ![1, 0, 0] ∧
    win0_12.index t = ![1, 0, 0] ∧ win0_13.index t = ![1, 0, 0] := by decide +kernel

/-- The input's block at a point, entry by entry. -/
theorem x_at (t : Fin cfg0.N) (r : Fin 512) (d : Fin 1024) (b : Fin 16) (s : Fin 2048) (ht : t.val < 64)
    (hb : (b : ℕ) = t.val / 4) (hs : (s : ℕ) = t.val % 4 * 512 + r) :
    iblk m c 0 t (ix3 0 r d) = m (c, Proc.devRef .tc main_arg0) (ix3 b s d) := by
  blk_ext [iblk, V, idx_x t]

/-- The mixer's first gain as the point reads it. -/
theorem g1_at (t : Fin cfg0.N) (d : Fin 1024) :
    iblk m c 1 t (ix2 0 d) = m (c, Proc.devRef .tc main_arg1) (ix2 1 d) := by
  blk_point [iblk, V, idx_r t]
/-- The mixer's second gain as the point reads it. -/
theorem g2_at (t : Fin cfg0.N) (d : Fin 1024) :
    iblk m c 2 t (ix2 0 d) = m (c, Proc.devRef .tc main_arg2) (ix2 1 d) := by
  blk_point [iblk, V, idx_r t]
/-- The feed-forward's first gain as the point reads it. -/
theorem g3_at (t : Fin cfg0.N) (d : Fin 1024) :
    iblk m c 9 t (ix2 0 d) = m (c, Proc.devRef .tc main_arg3) (ix2 1 d) := by
  blk_point [iblk, V, idx_r t]
/-- The feed-forward's second gain as the point reads it. -/
theorem g4_at (t : Fin cfg0.N) (d : Fin 1024) :
    iblk m c 10 t (ix2 0 d) = m (c, Proc.devRef .tc main_arg4) (ix2 1 d) := by
  blk_point [iblk, V, idx_r t]
/-- The heads' gain as the point reads it. -/
theorem hg_at (t : Fin cfg0.N) (d : Fin 1024) :
    iblk m c 7 t (ix2 0 d) = m (c, Proc.devRef .tc main_arg7) (ix2 0 d) := by
  blk_point [iblk, V, idx_r t]
/-- The wide part of the input projection as the point reads it. -/
theorem w_at (t : Fin cfg0.N) (d : Fin 1024) (e : Fin 3072) (e' : Fin 3088) (he : (e' : ℕ) = e) :
    iblk m c 3 t (ix2 d e) = m (c, Proc.devRef .tc main_arg5) (ix3 0 d e') := by
  blk_point [iblk, V, idx_r t]
/-- The wide part of the projection's bias as the point reads it. -/
theorem b_at (t : Fin cfg0.N) (e : Fin 3072) (e' : Fin 3088) (he : (e' : ℕ) = e) :
    iblk m c 4 t (ix2 0 e) = m (c, Proc.devRef .tc main_arg6) (ix2 0 e') := by
  blk_point [iblk, V, idx_r t]
/-- The mixer's output projection as the point reads it. -/
theorem wo_at (t : Fin cfg0.N) (e d : Fin 1024) :
    iblk m c 8 t (ix2 e d) = m (c, Proc.devRef .tc main_arg8) (ix3 0 e d) := by
  blk_point [iblk, V, idx_r t]
/-- The feed-forward's gate weights as the point reads them. -/
theorem wg_at (t : Fin cfg0.N) (e : Fin 1024) (d : Fin 2816) :
    iblk m c 11 t (ix3 0 e d) = m (c, Proc.devRef .tc main_arg9) (ix3 1 e d) := by
  blk_ext [iblk, V, idx_r t]
/-- The feed-forward's up weights as the point reads them. -/
theorem wu_at (t : Fin cfg0.N) (e : Fin 1024) (d : Fin 2816) :
    iblk m c 12 t (ix3 0 e d) = m (c, Proc.devRef .tc main_arg10) (ix3 1 e d) := by
  blk_ext [iblk, V, idx_r t]
/-- The feed-forward's down weights as the point reads them. -/
theorem wd_at (t : Fin cfg0.N) (d : Fin 2816) (e : Fin 1024) :
    iblk m c 13 t (ix3 0 d e) = m (c, Proc.devRef .tc main_arg11) (ix3 1 d e) := by
  blk_ext [iblk, V, idx_r t]
end Cert.KernelBlocks
end
-- ==== Proof.KernelGates.lean ====
/- The two windows that hold the gates' columns: eight columns of the input gates at 0 and eight of the forget gates at 128, each written by a scatter. -/
module

public import proofs.«01_k».proof.Proof.KernelBlocks
public import Idealize.ShloMosaic.Lib.StableHlo.ReadAt
public import Idealize.ShloMosaic.Lib.Pipeline.ValueKit
public import Idealize.ShloMosaic.Lib.Routing.OpsSet
public import Idealize.ShloMosaic.Lib.Routing.OpsOne

@[expose] public section

set_option maxRecDepth 16384

noncomputable section

namespace Cert.KernelGates

open Idealize.ShloMosaic Idealize.ShloMosaic.TcCoe Idealize.ShloMosaic.StableHlo
open Idealize.SL.Sem Cert.KernelIdeal Cert.KernelIdeal.Gen Cert.Spec Cert.Chunk Cert.KernelBlocks

variable (m : (ℓ : Loc nD τ sig) → Buf (Elt Ideal) ℓ) (c : Dev nD)

/-- Where the entries of a 1024 by 8 table land when they are written at column `o`. -/
theorem lands2 (idx : IVec S1 32) (o : ℕ) (hi : ∀ i, (idx i).toInt = (o : ℤ)) (k : S1024x8.Idx) (d : Fin 1024) (e : Fin 256) :
    scatter_S1024x256_S1_S1024x8_01_n_1_0.resultIdx? k idx = some (ix2 d e) ↔ (k 0).val = d ∧ o + (k 1).val = e := by
  have st0 : scatter_S1024x256_S1_S1024x8_01_n_1_0.start k idx 0 = 0 := rfl
  have st1 : scatter_S1024x256_S1_S1024x8_01_n_1_0.start k idx 1 = o := hi _
  have w0 : scatter_S1024x256_S1_S1024x8_01_n_1_0.window k 0 = (k 0).val := rfl
  have w1 : scatter_S1024x256_S1_S1024x8_01_n_1_0.window k 1 = (k 1).val := rfl
  refine (Routing.resultIdx?_ix2 scatter_S1024x256_S1_S1024x8_01_n_1_0 k idx d e).trans ?_
  rw [st0, st1, w0, w1]
  omega

/-- Where the entries of a row of eight land when they are written at column `o` of a row. -/
theorem lands1 (idx : IVec S2 32) (o : ℕ) (h0 : (idx (ix1 0)).toInt = 0) (h1 : (idx (ix1 1)).toInt = (o : ℤ)) (k : S8.Idx) (e : Fin 256) :
    scatter_S1x256_S2_S8_0_0_01_0.resultIdx? k idx = some (ix2 0 e) ↔ o + (k 0).val = e := by
  have st0 : scatter_S1x256_S2_S8_0_0_01_0.start k idx 0 = 0 := (Routing.start_pair _ rfl rfl idx k 0).trans h0
  have st1 : scatter_S1x256_S2_S8_0_0_01_0.start k idx 1 = o := (Routing.start_pair _ rfl rfl idx k 1).trans h1
  have w0 : scatter_S1x256_S2_S8_0_0_01_0.window k 0 = 0 := rfl
  have w1 : scatter_S1x256_S2_S8_0_0_01_0.window k 1 = (k 0).val := rfl
  refine (Routing.resultIdx?_ix2 scatter_S1x256_S2_S8_0_0_01_0 k idx 0 e).trans ?_
  rw [st0, st1, w0, w1]
  simp only [Fin.val_zero]
  omega

section
variable (X : FVec Ideal S1024x256 .f32) (idx : IVec S1 32) (u : FVec Ideal S1024x8 .f32) (o : ℕ) (hi : ∀ i, (idx i).toInt = (o : ℤ))
  (d : Fin 1024) (e : Fin 256)
include hi
/-- At a column that the scatter writes stands the table's. -/
theorem sc2_hit (h : Fin 8) (he : (e : ℕ) = o + h) :
    Host.scatter scatter_S1024x256_S1_S1024x8_01_n_1_0 (fun _ b => b) X idx u (ix2 d e) = u (ix2 d h) := by
  refine Routing.scatter_set_hit _ X idx u _ _ (fun k hk => ?_) (ix2 d h) ((lands2 idx o hi _ d e).2 ⟨rfl, he.symm⟩)
  have hk := (lands2 idx o hi k d e).1 hk
  refine congrArg u (funext fun a => Fin.ext ?_)
  match a with
  | ⟨0, _⟩ => exact hk.1
  | ⟨1, _⟩ => have := hk.2; show (k 1).val = h.val; omega

/-- A column that it does not write is left. -/
theorem sc2_miss (he : (e : ℕ) < o ∨ o + 8 ≤ e) :
    Host.scatter scatter_S1024x256_S1_S1024x8_01_n_1_0 (fun _ b => b) X idx u (ix2 d e) = X (ix2 d e) := by
  refine Routing.scatter_set_miss _ X idx u _ fun k hk => ?_
  have hk := ((lands2 idx o hi k d e).1 hk).2
  have : (k 1).val < 8 := (k 1).isLt
  omega
end

section
variable (X : FVec Ideal S1x256 .f32) (idx : IVec S2 32) (u : FVec Ideal S8 .f32) (o : ℕ) (h0 : (idx (ix1 0)).toInt = 0)
  (h1 : (idx (ix1 1)).toInt = (o : ℤ)) (e : Fin 256)
include h0 h1
/-- At a column of the row that the scatter writes stands the entry written. -/
theorem sc1_hit (h : Fin 8) (he : (e : ℕ) = o + h) :
    Host.scatter scatter_S1x256_S2_S8_0_0_01_0 (fun _ b => b) X idx u (ix2 0 e) = u (ix1 h) := by
  refine Routing.scatter_set_hit _ X idx u _ _ (fun k hk => ?_) (ix1 h) ((lands1 idx o h0 h1 _ e).2 he.symm)
  have hk := (lands1 idx o h0 h1 k e).1 hk
  refine congrArg u (funext fun a => Fin.ext ?_)
  match a with
  | ⟨0, _⟩ => show (k 0).val = h.val; omega

/-- A column of the row that it does not write is left. -/
theorem sc1_miss (he : (e : ℕ) < o ∨ o + 8 ≤ e) :
    Host.scatter scatter_S1x256_S2_S8_0_0_01_0 (fun _ b => b) X idx u (ix2 0 e) = X (ix2 0 e) := by
  refine Routing.scatter_set_miss _ X idx u _ fun k hk => ?_
  have hk := (lands1 idx o h0 h1 k e).1 hk
  have : (k 0).val < 8 := (k 0).isLt
  omega
end

/-- The gates' weights and biases: column `h` is the input gate's of head `h`, column `128 + h` the forget gate's. -/
theorem wi_at (t : Fin cfg0.N) (d : Fin 1024) (h : Fin 8) (j : Fin 256) (hj : (j : ℕ) = h) (e' : Fin 3088) (he : (e' : ℕ) = 3072 + h) :
    iblk m c 5 t (ix2 d j) = m (c, Proc.devRef .tc main_arg5) (ix3 0 d e') := by
  have e : (win0_5.blk t).view.emb (ix2 d j) = ix2 d j := by blk_ext [idx_r t]
  show after hostOps0 (fun b => m (c, b)) (Proc.devRef .tc main_v39) ((win0_5.blk t).view.emb (ix2 d j)) = _
  rw [e]
  after_reads_at
  rw [sc2_miss _ _ _ 128 (fun i => by pointwise; rfl) d j (by omega), sc2_hit _ _ _ 0 (fun i => by pointwise; rfl) d j h (by omega)]
  pointwise
  blk_ext []
/-- Column `128 + h` of the gates' weights is the forget gate's column of head `h`. -/
theorem wf_at (t : Fin cfg0.N) (d : Fin 1024) (h : Fin 8) (j : Fin 256) (hj : (j : ℕ) = 128 + h) (e' : Fin 3088) (he : (e' : ℕ) = 3080 + h) :
    iblk m c 5 t (ix2 d j) = m (c, Proc.devRef .tc main_arg5) (ix3 0 d e') := by
  have e : (win0_5.blk t).view.emb (ix2 d j) = ix2 d j := by blk_ext [idx_r t]
  show after hostOps0 (fun b => m (c, b)) (Proc.devRef .tc main_v39) ((win0_5.blk t).view.emb (ix2 d j)) = _
  rw [e]
  after_reads_at
  rw [sc2_hit _ _ _ 128 (fun i => by pointwise; rfl) d j h (by omega)]
  pointwise
  blk_ext []
/-- Entry `h` of the gates' bias is the input gate's of head `h`. -/
theorem bi_at (t : Fin cfg0.N) (h : Fin 8) (j : Fin 256) (hj : (j : ℕ) = h) (e' : Fin 3088) (he : (e' : ℕ) = 3072 + h) :
    iblk m c 6 t (ix2 0 j) = m (c, Proc.devRef .tc main_arg6) (ix2 0 e') := by
  have e : (win0_6.blk t).view.emb (ix2 0 j) = ix2 0 j := by blk_ext [idx_r t]
  show after hostOps0 (fun b => m (c, b)) (Proc.devRef .tc main_v28) ((win0_6.blk t).view.emb (ix2 0 j)) = _
  rw [e]
  after_reads_at
  rw [sc1_miss _ _ _ 128 (by pointwise; after_reads_at; rfl) (by pointwise; after_reads_at; rfl) j (by omega),
    sc1_hit _ _ _ 0 (by pointwise; after_reads_at; rfl) (by pointwise; after_reads_at; rfl) j h (by omega)]
  pointwise
  blk_ext []
/-- Entry `128 + h` of the gates' bias is the forget gate's of head `h`. -/
theorem bf_at (t : Fin cfg0.N) (h : Fin 8) (j : Fin 256) (hj : (j : ℕ) = 128 + h) (e' : Fin 3088) (he : (e' : ℕ) = 3080 + h) :
    iblk m c 6 t (ix2 0 j) = m (c, Proc.devRef .tc main_arg6) (ix2 0 e') := by
  have e : (win0_6.blk t).view.emb (ix2 0 j) = ix2 0 j := by blk_ext [idx_r t]
  show after hostOps0 (fun b => m (c, b)) (Proc.devRef .tc main_v28) ((win0_6.blk t).view.emb (ix2 0 j)) = _
  rw [e]
  after_reads_at
  rw [sc1_hit _ _ _ 128 (by pointwise; after_reads_at; rfl) (by pointwise; after_reads_at; rfl) j h (by omega)]
  pointwise
  blk_ext []
end Cert.KernelGates
end
-- ==== Proof.KernelReads.lean ====
/- What a tile's projections are: the layer's, at the tile's sequence and positions. -/
module

public import proofs.«01_k».proof.Proof.KernelGates
public import proofs.«01_k».proof.Proof.RefEntry

@[expose] public section

set_option maxRecDepth 16384

noncomputable section

namespace Cert.KernelReads

open Idealize.ShloMosaic Idealize.ShloMosaic.TcCoe Idealize.ShloMosaic.StableHlo
open Idealize.SL.Sem Cert.KernelIdeal Cert.KernelIdeal.Gen Cert.Spec Cert.Chunk Cert.TileHead Cert.StepK Cert.Tile

/-- The normed rows. -/
theorem h_at (x0 : FVec Ideal S1x512x1024 .f32) (x1 : FVec Ideal S1x1024 .f32) (r : Fin 512) (d : Fin 1024) :
    k0_pay271 (F := Ideal) x0 x1 (ix2 r d) = rms c1024 (fun d => x0 (ix3 0 r d)) (fun d => x1 (ix2 0 d)) d := by
  unfold k0_pay271
  clean_types
  pointwise
  rfl

/-- The gates' projection. -/
theorem g_at (h : FVec Ideal S512x1024 .bf16) (w : FVec Ideal S1024x256 .bf16) (b : FVec Ideal S1x256 .f32) (r : Fin 512) (j : Fin 256) :
    k0_pay273 h w b (ix2 r j) = (∑ d, h (ix2 r d) * w (ix2 d j)) + b (ix2 0 j) := by
  unfold k0_pay273
  clean_types
  pointwise

/-- The other projections. -/
theorem u_at (h : FVec Ideal S512x1024 .bf16) (w : FVec Ideal S1024x3072 .bf16) (b : FVec Ideal S1x3072 .f32) (r : Fin 512) (j : Fin 3072) :
    k0_pay274 h w b (ix2 r j) = (∑ d, h (ix2 r d) * w (ix2 d j)) + b (ix2 0 j) := by
  unfold k0_pay274
  clean_types
  pointwise
  by_cases h1 : (r : ℕ) < 256
  · simp only [dif_pos h1]
  · have : 256 + ((r : ℕ) - 256) = r := by omega
    simp only [dif_neg h1, this]

section
variable (A : Args) (b : Fin 16) (T : ℕ) (u : FVec Ideal S512x3072 .f32) (g : FVec Ideal S512x256 .f32)
  (hu : ∀ (r : Fin 512) (e : Fin 3072), u (ix2 r e) = ((A.ur b (T + r) e : ℝ) : EReal))
  (hi : ∀ (r : Fin 512) (h : Fin 8) (j : Fin 256), (j : ℕ) = h → g (ix2 r j) = ((A.ur b (T + r) (3072 + h) : ℝ) : EReal))
  (hf : ∀ (r : Fin 512) (h : Fin 8) (j : Fin 256), (j : ℕ) = 128 + h → g (ix2 r j) = ((A.ur b (T + r) (3080 + h) : ℝ) : EReal))
include hu hi hf

/-- A tile whose projections are the layer's from position `T` on: each of its chunks reads the recurrence's arguments. -/
theorem reads (ch : Fin 2) : Reads (A.D b) (T + 256 * ch) u g ch where
  hq pr r x := by
    pointwise [Tile.q, slu]
    rw [hu]
    show _ = ((A.ur b _ _ : ℝ) : EReal)
    congr 2 <;> simp only <;> omega
  hk pr r x := by
    pointwise [Tile.k, slu]
    rw [hu, RefEntry.eighth, ← EReal.coe_mul]
    show _ = ((A.ur b _ _ * (1 / 8) : ℝ) : EReal)
    congr 3 <;> simp only <;> omega
  hv pr sb r y := by
    pointwise [Tile.v, slu]
    rw [hu]
    show _ = ((A.ur b _ _ : ℝ) : EReal)
    congr 2 <;> simp only <;> omega
  hl h h8 r := by
    pointwise [Tile.lf, Tile.fg]
    rw [hf _ ⟨h, h8⟩ _ (by simp only), lsig_min]
    show ((lsig (A.ur b _ _) : ℝ) : EReal) = ((lsig (A.ur b _ _) : ℝ) : EReal)
    congr 3 <;> simp only <;> omega
  hi h h8 r := by
    pointwise [Tile.ig]
    rw [hi _ ⟨h, h8⟩ _ (by simp only <;> omega)]
    show _ = ((A.ur b _ _ : ℝ) : EReal)
    congr 2 <;> simp only <;> omega
end

variable (m : (ℓ : Loc nD τ sig) → Buf (Elt Ideal) ℓ) (c : Dev nD)

/-- The arguments as the layer reads them. -/
def args : Args where
  x b t d := m (c, Proc.devRef .tc main_arg0) (ix3 b t d)
  g1 d := m (c, Proc.devRef .tc main_arg1) (ix2 1 d)
  g2 d := m (c, Proc.devRef .tc main_arg2) (ix2 1 d)
  g3 d := m (c, Proc.devRef .tc main_arg3) (ix2 1 d)
  g4 d := m (c, Proc.devRef .tc main_arg4) (ix2 1 d)
  w d e := m (c, Proc.devRef .tc main_arg5) (ix3 0 d e)
  b e := m (c, Proc.devRef .tc main_arg6) (ix2 0 e)
  hg j := m (c, Proc.devRef .tc main_arg7) (ix2 0 j)
  wo e d := m (c, Proc.devRef .tc main_arg8) (ix3 0 e d)
  wg d f := m (c, Proc.devRef .tc main_arg9) (ix3 1 d f)
  wu d f := m (c, Proc.devRef .tc main_arg10) (ix3 1 d f)
  wd f d := m (c, Proc.devRef .tc main_arg11) (ix3 1 f d)

section
variable (t : Fin cfg0.N) (h64 : t.val < 64)
include h64

/-- The normed rows of a tile. -/
theorem nrm_at (r : Fin 512) (d : Fin 1024) (b : Fin 16) (s : Fin 2048) (hb : (b : ℕ) = t.val / 4) (hs : (s : ℕ) = t.val % 4 * 512 + r) :
    k0_pay271 (iblk m c 0 t) (iblk m c 1 t) (ix2 r d) = rms c1024 ((args m c).x b s) (args m c).g1 d := by
  refine (h_at _ _ r d).trans ?_
  rw [show (fun d => iblk m c 0 t (ix3 0 r d)) = (args m c).x b s from funext fun d => KernelBlocks.x_at m c t r d b s h64 hb hs,
    show (fun d => iblk m c 1 t (ix2 0 d)) = (args m c).g1 from funext fun d => KernelBlocks.g1_at m c t d]

/-- The wide projections of a tile. -/
theorem U_at (r : Fin 512) (e : Fin 3072) (b : Fin 16) (s : Fin 2048) (hb : (b : ℕ) = t.val / 4) (hs : (s : ℕ) = t.val % 4 * 512 + r)
    (e' : Fin 3088) (he : (e' : ℕ) = e) : U m c t (ix2 r e) = (args m c).u b s e' := by
  refine (u_at _ _ _ r e).trans ?_
  exact congrArg₂ (· + ·) (Finset.sum_congr rfl fun d _ => congrArg₂ (· * ·) (nrm_at m c t h64 r d b s hb hs) (KernelBlocks.w_at m c t d e e' he))
    (KernelBlocks.b_at m c t e e' he)

/-- The input gates of a tile. -/
theorem Gi_at (r : Fin 512) (h : Fin 8) (j : Fin 256) (hj : (j : ℕ) = h) (b : Fin 16) (s : Fin 2048) (hb : (b : ℕ) = t.val / 4)
    (hs : (s : ℕ) = t.val % 4 * 512 + r) (e' : Fin 3088) (he : (e' : ℕ) = 3072 + h) : G m c t (ix2 r j) = (args m c).u b s e' := by
  refine (g_at _ _ _ r j).trans ?_
  exact congrArg₂ (· + ·) (Finset.sum_congr rfl fun d _ => congrArg₂ (· * ·) (nrm_at m c t h64 r d b s hb hs) (KernelGates.wi_at m c t d h j hj e' he))
    (KernelGates.bi_at m c t h j hj e' he)

/-- The forget gates of a tile. -/
theorem Gf_at (r : Fin 512) (h : Fin 8) (j : Fin 256) (hj : (j : ℕ) = 128 + h) (b : Fin 16) (s : Fin 2048) (hb : (b : ℕ) = t.val / 4)
    (hs : (s : ℕ) = t.val % 4 * 512 + r) (e' : Fin 3088) (he : (e' : ℕ) = 3080 + h) : G m c t (ix2 r j) = (args m c).u b s e' := by
  refine (g_at _ _ _ r j).trans ?_
  exact congrArg₂ (· + ·) (Finset.sum_congr rfl fun d _ => congrArg₂ (· * ·) (nrm_at m c t h64 r d b s hb hs) (KernelGates.wf_at m c t d h j hj e' he))
    (KernelGates.bf_at m c t h j hj e' he)

/-- The chunks of tile `t` read the recurrence of sequence `t / 4` from position `512 (t mod 4)` on. -/
theorem tile (hA : (args m c).Ok) (b : Fin 16) (hb : (b : ℕ) = t.val / 4) (ch : Fin 2) :
    Reads ((args m c).D b) (t.val % 4 * 512 + 256 * ch) (U m c t) (G m c t) ch := by
  refine reads (args m c) b (t.val % 4 * 512) _ _ (fun r e => ?_) (fun r h j hj => ?_) (fun r h j hj => ?_) ch
  · exact (U_at m c t h64 r e b ⟨t.val % 4 * 512 + r, by omega⟩ hb rfl ⟨e, by omega⟩ rfl).trans (hA.u_eq b _ _)
  · exact (Gi_at m c t h64 r h j hj b ⟨t.val % 4 * 512 + r, by omega⟩ hb rfl ⟨3072 + h, by omega⟩ rfl).trans (hA.u_eq b _ _)
  · exact (Gf_at m c t h64 r h j hj b ⟨t.val % 4 * 512 + r, by omega⟩ hb rfl ⟨3080 + h, by omega⟩ rfl).trans (hA.u_eq b _ _)
end
end Cert.KernelReads
end
-- ==== Proof.KernelGrid.lean ====
/- The grid: before each tile the carried state is the recurrence's, and what the tile leaves for the next point is the
   layer's rows between the two sublayers. -/
module

public import proofs.«01_k».proof.Proof.KernelReads

@[expose] public section

set_option maxRecDepth 16384

noncomputable section

namespace Cert.KernelGrid

open Idealize.ShloMosaic Idealize.ShloMosaic.TcCoe Idealize.ShloMosaic.StableHlo
open Idealize.SL.Sem Cert.KernelIdeal Cert.KernelIdeal.Gen Cert.Spec Cert.Chunk Cert.TileHead Cert.StepK Cert.Tile Cert.KernelReads Cert.Match

/-- A tile's two chunks advance the state by 512 positions. -/
theorem step {D : Rows} {T : ℕ} {u : FVec Ideal S512x3072 .f32} {g : FVec Ideal S512x256 .f32} {C : Fin 4 → FVec Ideal S1x128x256 .f32}
    {N : Fin 4 → FVec Ideal S1x128 .f32} {Mv : FVec Ideal S1x128 .f32} (R0 : Reads D T u g 0) (R1 : Reads D (T + 256) u g 1)
    (St : StateAt D T C N Mv) : StateAt D (T + 256 + 256) (c2 u g C Mv) (n2 u g N Mv) (m2 g Mv) :=
  next R1 (next R0 St)

/-- The zero state is the recurrence's at the beginning. -/
theorem start (D : Rows) : StateAt D 0 Cz Nz (Mz (F := Ideal)) where
  hc pr x y := by
    pointwise [Cz, boxC, k0_pay1]
    split
    · rw [Rows.S, S_zero]; simp
    · rfl
  hn pr x := by
    pointwise [Nz, boxN, k0_pay2]
    rw [Rows.S, S_zero]; simp
  hm h h8 := by
    pointwise [Mz, boxN, k0_pay3]
    rfl

/-- A normed and gated head at an index. -/
theorem gated_at (u : FVec Ideal S512x3072 .f32) (ch : Fin 2) (pr : Fin 4) (hg : FVec Ideal S1x1024 .f32) (sb : Fin 2) (x : FVec Ideal S256x128 .f32)
    (r : Fin 256) (y : Fin 128) (r' : Fin 512) (hr : (r' : ℕ) = 256 * ch + r) (j : Fin 1024) (hj : (j : ℕ) = 128 * hd pr sb + y)
    (e : Fin 3072) (he : (e : ℕ) = 2048 + j) :
    gated u ch pr hg sb x (ix2 r y) = Ideal.logistic (u (ix2 r' e)) * rms c128 (fun y => x (ix2 r y)) (fun _ => hg (ix2 0 j)) y := by
  pointwise [gated, og, slu, k0_pay288]
  have e1 : r' = ⟨256 * (ch : ℕ) + r, by omega⟩ := Fin.ext hr
  have h8 := hd_lt pr sb
  have e2 : e = ⟨2048 + 128 * hd pr sb + y, by omega⟩ := Fin.ext (by simp only; omega)
  have e3 : j = ⟨128 * hd pr sb + y, by omega⟩ := Fin.ext hj
  rw [e1, e2, show hg (ix2 0 j) = hg (ix2 0 ⟨128 * hd pr sb + y, by omega⟩) from congrArg (fun j => hg (ix2 0 j)) e3]
  rfl

/-- An element of the heads put side by side. -/
theorem asm_at (w : Fin 2 → Fin 4 → Fin 2 → FVec Ideal S256x128 .bf16) (r : Fin 512) (j : Fin 1024) (ch : Fin 2) (hr : (r : ℕ) / 256 = ch) :
    asmH w (ix2 r j) = w ch ⟨(j : ℕ) / 256, by omega⟩ ⟨(j : ℕ) / 128 % 2, by omega⟩ (ix2 ⟨(r : ℕ) % 256, by omega⟩ ⟨(j : ℕ) % 128, by omega⟩) := by
  have h2 : (r : ℕ) / 256 < 2 := by omega
  have e : (⟨(r : ℕ) / 256, h2⟩ : Fin 2) = ch := Fin.ext hr
  exact congrArg (fun ch => w ch ⟨(j : ℕ) / 256, by omega⟩ ⟨(j : ℕ) / 128 % 2, by omega⟩
    (ix2 ⟨(r : ℕ) % 256, by omega⟩ ⟨(j : ℕ) % 128, by omega⟩)) e

/-- The rows between the sublayers at an index. -/
theorem mid_at (H : FVec Ideal S512x1024 .bf16) (x0 : FVec Ideal S1x512x1024 .f32) (x2 : FVec Ideal S1x1024 .f32) (x8 : FVec Ideal S1024x1024 .bf16)
    (r : Fin 512) (d : Fin 1024) : mid H x0 x2 x8 (ix2 r d)
      = x0 (ix3 0 r d) + rms c1024 (fun d => ∑ e, H (ix2 r e) * x8 (ix2 e d)) (fun d => x2 (ix2 0 d)) d := by
  unfold mid
  pointwise [k0_pay6, k0_pay533, k0_pay531, k0_pay532, k0_pay530]
  by_cases h1 : (r : ℕ) < 256
  · simp only [dif_pos h1]
    rfl
  · have : 256 + ((r : ℕ) - 256) = r := by omega
    simp only [dif_neg h1, this]
    rfl

section
variable (m : (ℓ : Loc nD τ sig) → Buf (Elt Ideal) ℓ) (c : Dev nD) (hA : (args m c).Ok) (t : Fin cfg0.N) (h64 : t.val < 64)
  (b : Fin 16) (hb : (b : ℕ) = t.val / 4)
  {C : Fin 4 → FVec Ideal S1x128x256 .f32} {N : Fin 4 → FVec Ideal S1x128 .f32} {Mv : FVec Ideal S1x128 .f32}
  (St : StateAt ((args m c).D b) (t.val % 4 * 512) C N Mv)
include hA h64 hb St

/-- The state after a tile. -/
theorem state_next : StateAt ((args m c).D b) (t.val % 4 * 512 + 512) (c2 (U m c t) (G m c t) C Mv) (n2 (U m c t) (G m c t) N Mv) (m2 (G m c t) Mv) :=
  step (tile m c t h64 hA b hb 0) (tile m c t h64 hA b hb 1) St

/-- The tile's gated heads. -/
theorem hs_at (r : Fin 512) (j : Fin 1024) (s : Fin 2048) (hs' : (s : ℕ) = t.val % 4 * 512 + r) :
    hs (U m c t) (G m c t) (iblk m c 7 t) C N Mv (ix2 r j) = (args m c).z b s j := by
  have R0 := tile m c t h64 hA b hb 0
  have R1 := tile m c t h64 hA b hb 1
  have S1 := next R0 St
  have key : ∀ (ch : Fin 2) (pr : Fin 4) (sb : Fin 2) (r0 : Fin 256) (y : Fin 128) (x : FVec Ideal S256x128 .f32), (r : ℕ) = 256 * ch + r0 →
      (j : ℕ) = 128 * hd pr sb + y → (∀ y, x (ix2 r0 y) = ((((args m c).D b).H (hd pr sb) y s : ℝ) : EReal)) →
      gated (U m c t) ch pr (iblk m c 7 t) sb x (ix2 r0 y) = (args m c).z b s j := by
    intro ch pr sb r0 y x hr hj hx
    refine (gated_at _ ch pr _ sb x r0 y r hr j hj ⟨2048 + j, by omega⟩ rfl).trans ?_
    have hq : (j : ℕ) / 128 = hd pr sb := by omega
    have hy : (⟨(j : ℕ) % 128, Nat.mod_lt _ (by decide)⟩ : Fin 128) = y := Fin.ext (by simp only; omega)
    unfold Args.z
    rw [U_at m c t h64 r _ b s hb hs' ⟨2048 + j, by omega⟩ rfl, hy, hq]
    refine congrArg₂ (· * ·) rfl ?_
    have e1 : (fun y => x (ix2 r0 y)) = (args m c).h b s (hd pr sb) := funext fun y => hx y
    have e2 : (fun _ : Fin 128 => iblk m c 7 t (ix2 0 j)) = fun _ => (args m c).hg j := funext fun _ => KernelBlocks.hg_at m c t j
    exact congrArg₂ (fun f g => rms c128 f g y) e1 e2
  have hpr : (j : ℕ) / 256 < 4 := by omega
  have hj : (j : ℕ) = 128 * hd ⟨(j : ℕ) / 256, hpr⟩ ⟨(j : ℕ) / 128 % 2, by omega⟩ + j % 128 := by
    unfold hd
    simp only
    omega
  unfold hs
  by_cases hr : (r : ℕ) < 256
  · rw [asm_at _ r j 0 (by rw [Fin.val_zero]; omega)]
    refine key 0 _ _ _ _ _ ?_ hj fun y => ?_
    · simp only [Fin.val_zero]; omega
    · refine (hh_eq R0 St _ _ _ y).trans ?_
      congr 2
      simp only [Fin.val_zero]; omega
  · rw [asm_at _ r j 1 (by rw [Fin.val_one]; omega)]
    refine key 1 _ _ _ _ _ ?_ hj fun y => ?_
    · simp only [Fin.val_one]; omega
    · refine (hh_eq R1 S1 _ _ _ y).trans ?_
      congr 2
      simp only [Fin.val_zero, Fin.val_one]; omega

/-- The tile's rows between the sublayers. -/
theorem mid_eq (r : Fin 512) (d : Fin 1024) (s : Fin 2048) (hs' : (s : ℕ) = t.val % 4 * 512 + r) :
    mid (hs (U m c t) (G m c t) (iblk m c 7 t) C N Mv) (iblk m c 0 t) (iblk m c 2 t) (iblk m c 8 t) (ix2 r d) = (args m c).x1 b s d := by
  refine (mid_at _ _ _ _ r d).trans ?_
  unfold Args.x1
  have e1 : (fun d => ∑ e, hs (U m c t) (G m c t) (iblk m c 7 t) C N Mv (ix2 r e) * iblk m c 8 t (ix2 e d)) = (args m c).mo b s := by
    funext d
    exact Finset.sum_congr rfl fun e _ => congrArg₂ (· * ·) (hs_at m c hA t h64 b hb St r e s hs') (KernelBlocks.wo_at m c t e d)
  have e2 : (fun d => iblk m c 2 t (ix2 0 d)) = (args m c).g2 := funext fun d => KernelBlocks.g2_at m c t d
  exact congrArg₂ (· + ·) (KernelBlocks.x_at m c t r d b s h64 hb hs') (congrArg₂ (fun f g => rms c1024 f g d) e1 e2)
end

variable (m : (ℓ : Loc nD τ sig) → Buf (Elt Ideal) ℓ) (c : Dev nD) (hA : (args m c).Ok)
include hA

/-- Before tile `n` the carried state is the recurrence's. -/
theorem before : ∀ (n : ℕ) (h : n < cfg0.N) (h64 : n < 64) (b : Fin 16), (b : ℕ) = n / 4 →
    ∃ C N Mv, Leaves m c ⟨n, h⟩ C N Mv ∧ StateAt ((args m c).D b) (n % 4 * 512) C N Mv := by
  intro n
  induction n with
  | zero => intro h h64 b hb; exact ⟨_, _, _, leaves_first m c ⟨0, h⟩ rfl (by simp only; omega), start _⟩
  | succ n ih =>
    intro h h64 b hb
    by_cases hr : (n + 1) % 4 = 0
    · rw [hr]
      exact ⟨_, _, _, leaves_first m c ⟨n + 1, h⟩ hr (by simp only; omega), by rw [Nat.zero_mul]; exact start _⟩
    · obtain ⟨C, N, Mv, L, St⟩ := ih (by omega) (by omega) b (by omega)
      refine ⟨_, _, _, leaves_next m c ⟨n + 1, h⟩ hr, ?_⟩
      have hT : (n + 1) % 4 * 512 = n % 4 * 512 + 512 := by omega
      rw [hT]
      have X := state_next m c hA ⟨n, by omega⟩ (by simp only; omega) b (by simp only; omega) St
      have e1 : boxC (prevO m c ⟨n + 1, h⟩).2.1 = c2 (U m c ⟨n, by omega⟩) (G m c ⟨n, by omega⟩) C Mv := funext L.hc
      have e2 : boxN (prevO m c ⟨n + 1, h⟩).2.2.1 = n2 (U m c ⟨n, by omega⟩) (G m c ⟨n, by omega⟩) N Mv := funext L.hn
      have e3 : boxN (prevO m c ⟨n + 1, h⟩).2.2.2.1 0 = m2 (G m c ⟨n, by omega⟩) Mv := L.hm
      rw [e1, e2, e3]
      exact X

/-- What a tile leaves for the next point. -/
theorem leaves_mid (t : Fin cfg0.N) (h64 : t.val < 64) (b : Fin 16) (hb : (b : ℕ) = t.val / 4) (r : Fin 512) (d : Fin 1024) (s : Fin 2048)
    (hs' : (s : ℕ) = t.val % 4 * 512 + r) : (outsAt0 m c t.val t.isLt).2.2.2.2 (ix2 r d) = (args m c).x1 b s d := by
  obtain ⟨C, N, Mv, L, St⟩ := before m c hA t.val t.isLt h64 b hb
  rw [L.hmid]
  exact mid_eq m c hA t h64 b hb St r d s hs'
end Cert.KernelGrid
end
-- ==== Proof.KernelFfn.lean ====
/- The feed-forward of a tile at an index: four chunks of the gate and up projections, put side by side and contracted at once. -/
module

public import proofs.«01_k».proof.Proof.Pieces
public import proofs.«01_k».proof.Proof.Spec
public import Idealize.ShloMosaic.Lib.Pipeline.ValueKit
public import Idealize.ShloMosaic.Lib.StableHlo.ReadAt

@[expose] public section

set_option maxRecDepth 16384

noncomputable section

namespace Cert.KernelFfn

open Idealize.ShloMosaic Idealize.ShloMosaic.TcCoe Idealize.ShloMosaic.StableHlo
open Idealize.SL.Sem Cert.KernelIdeal Cert.KernelIdeal.Gen Cert.Spec Cert.Chunk Cert.Tile

/-- The normed rows. -/
theorem n_at (x0 : FVec Ideal S512x1024 .f32) (x1 : FVec Ideal S1x1024 .f32) (r : Fin 512) (d : Fin 1024) :
    k0_pay270 (F := Ideal) x0 x1 (ix2 r d) = rms c1024 (fun d => x0 (ix2 r d)) (fun d => x1 (ix2 0 d)) d := by
  unfold k0_pay270
  clean_types
  pointwise
  rfl

section
variable (x0 : FVec Ideal S512x1024 .f32) (x1 : FVec Ideal S1x1024 .f32) (x : FVec Ideal S512x1024 .bf16) (r : Fin 512)
  (g u : FVec Ideal S1x1024x768 .bf16) (f : Fin 768)

/-- The gate projection's first chunk of columns, entry by entry. -/
theorem g0_at : k0_pay272 (F := Ideal) x0 x1 g (ix2 r f) = ∑ d, k0_pay270 (F := Ideal) x0 x1 (ix2 r d) * g (ix3 0 d f) := by
  unfold k0_pay272
  clean_types
  generalize k0_pay270 (F := Ideal) x0 x1 = y
  pointwise
  by_cases h1 : (r : ℕ) < 256
  · simp only [dif_pos h1]
  · have : 256 + ((r : ℕ) - 256) = r := by omega
    simp only [dif_neg h1, this]

/-- The first chunk's gated product, entry by entry. -/
theorem a0_at (w : FVec Ideal S512x768 .f32) : k0_pay275 (F := Ideal) x w u (ix2 r f)
    = w (ix2 r f) * Ideal.logistic (w (ix2 r f)) * ∑ d, x (ix2 r d) * u (ix3 0 d f) := by
  unfold k0_pay275
  clean_types
  pointwise
  by_cases h1 : (r : ℕ) < 256
  · simp only [dif_pos h1]
  · have : 256 + ((r : ℕ) - 256) = r := by omega
    simp only [dif_neg h1, this]

/-- A middle chunk's gated product, entry by entry. -/
theorem a1_at : k0_pay279 (F := Ideal) (k0_pay276 x g) (k0_pay277 x u) (k0_pay278 x g) (ix2 r f)
    = (∑ d, x (ix2 r d) * g (ix3 0 d f)) * Ideal.logistic (∑ d, x (ix2 r d) * g (ix3 0 d f)) * ∑ d, x (ix2 r d) * u (ix3 0 d f) := by
  unfold k0_pay279 k0_pay278 k0_pay276 k0_pay277
  clean_types
  pointwise

/-- Another middle chunk's gated product, entry by entry. -/
theorem a2_at : k0_pay386 (F := Ideal) (k0_pay280 x g) (k0_pay324 x u) (ix2 r f)
    = (∑ d, x (ix2 r d) * g (ix3 0 d f)) * Ideal.logistic (∑ d, x (ix2 r d) * g (ix3 0 d f)) * ∑ d, x (ix2 r d) * u (ix3 0 d f) := by
  unfold k0_pay386 k0_pay280 k0_pay324
  clean_types
  pointwise
end

/-- The contraction over the four chunks, from what stands in each. -/
theorem d_at (a b c : FVec Ideal S512x768 .bf16) (g u : FVec Ideal S512x512 .f32) (wd : FVec Ideal S1x2816x1024 .bf16) (r : Fin 512) (d : Fin 1024)
    (A : Fin 2816 → EReal) (ha : ∀ f : Fin 768, a (ix2 r f) = A ⟨f, by omega⟩) (hb : ∀ f : Fin 768, b (ix2 r f) = A ⟨768 + f, by omega⟩)
    (hc : ∀ f : Fin 768, c (ix2 r f) = A ⟨1536 + f, by omega⟩)
    (hg : ∀ f : Fin 512, g (ix2 r f) * Ideal.logistic (g (ix2 r f)) * u (ix2 r f) = A ⟨2304 + f, by omega⟩) :
    k0_pay456 (F := Ideal) a b c g u wd (ix2 r d) = ∑ f, A f * wd (ix3 0 f d) := by
  unfold k0_pay456
  clean_types
  pointwise
  have key : ∀ f : Fin 2816, (if h : (f : ℕ) < 768 then a (ix2 r ⟨f, h⟩)
      else if h : (f : ℕ) - 768 < 768 then b (ix2 r ⟨f - 768, h⟩)
      else if h : (f : ℕ) - 768 - 768 < 768 then c (ix2 r ⟨f - 768 - 768, h⟩)
      else g (ix2 r ⟨f - 768 - 768 - 768, by omega⟩) * Ideal.logistic (g (ix2 r ⟨f - 768 - 768 - 768, by omega⟩))
        * u (ix2 r ⟨f - 768 - 768 - 768, by omega⟩)) = A f := by
    intro f
    by_cases h1 : (f : ℕ) < 768
    · simp only [dif_pos h1]; exact ha _
    by_cases h2 : (f : ℕ) - 768 < 768
    · simp only [dif_neg h1, dif_pos h2]; refine (hb _).trans (congrArg A (Fin.ext ?_)); simp only; omega
    by_cases h3 : (f : ℕ) - 768 - 768 < 768
    · simp only [dif_neg h1, dif_neg h2, dif_pos h3]; refine (hc _).trans (congrArg A (Fin.ext ?_)); simp only; omega
    · simp only [dif_neg h1, dif_neg h2, dif_neg h3]; refine (hg _).trans (congrArg A (Fin.ext ?_)); simp only; omega
  by_cases h1 : (r : ℕ) < 256
  · simp only [dif_pos h1]
    exact Finset.sum_congr rfl fun f _ => congrArg (· * wd (ix3 0 f d)) (key f)
  · have : 256 + ((r : ℕ) - 256) = r := by omega
    simp only [dif_neg h1, this]
    exact Finset.sum_congr rfl fun f _ => congrArg (· * wd (ix3 0 f d)) (key f)

/-- The second residual sum with its norm, entry by entry. -/
theorem o_at (x : FVec Ideal S512x1024 .f32) (y : FVec Ideal S512x1024 .f32) (z : FVec Ideal S1x1024 .f32) (r : Fin 512) (d : Fin 1024) :
    k0_pay534 (F := Ideal) x y z (ix3 0 r d) = y (ix2 r d) + rms c1024 (fun d => x (ix2 r d)) (fun d => z (ix2 0 d)) d := by
  unfold k0_pay534
  clean_types
  pointwise
  rfl
/-- The gate projection's last chunk, made in two halves of the rows, entry by entry. -/
theorem g3_at (x : FVec Ideal S512x1024 .bf16) (r : Fin 512)
  (g : FVec Ideal S1x1024x512 .bf16) (f : Fin 512) : k0_pay387 (F := Ideal) x g (ix2 r f) = ∑ d, x (ix2 r d) * g (ix3 0 d f) := by
  unfold k0_pay387
  clean_types
  pointwise
/-- The up projection's last chunk, made in two halves of the rows, entry by entry. -/
theorem u3_at (x : FVec Ideal S512x1024 .bf16) (r : Fin 512)
  (g : FVec Ideal S1x1024x512 .bf16) (f : Fin 512) : k0_pay431 (F := Ideal) x g (ix2 r f) = ∑ d, x (ix2 r d) * g (ix3 0 d f) := by
  unfold k0_pay431
  clean_types
  pointwise

/-- The feed-forward of a tile's row, for weights given chunk by chunk. -/
theorem ffn_at (md : FVec Ideal S512x1024 .f32) (x9 x10 : FVec Ideal S1x1024 .f32) (wg0 wg1 wg2 : FVec Ideal S1x1024x768 .bf16)
    (wg3 : FVec Ideal S1x1024x512 .bf16) (wu0 wu1 wu2 : FVec Ideal S1x1024x768 .bf16) (wu3 : FVec Ideal S1x1024x512 .bf16)
    (wd : FVec Ideal S1x2816x1024 .bf16) (Wg Wu : Fin 1024 → Fin 2816 → EReal)
    (hg0 : ∀ d f, wg0 (ix3 0 d f) = Wg d ⟨f, by omega⟩) (hg1 : ∀ d f, wg1 (ix3 0 d f) = Wg d ⟨768 + f, by omega⟩)
    (hg2 : ∀ d f, wg2 (ix3 0 d f) = Wg d ⟨1536 + f, by omega⟩) (hg3 : ∀ d f, wg3 (ix3 0 d f) = Wg d ⟨2304 + f, by omega⟩)
    (hu0 : ∀ d f, wu0 (ix3 0 d f) = Wu d ⟨f, by omega⟩) (hu1 : ∀ d f, wu1 (ix3 0 d f) = Wu d ⟨768 + f, by omega⟩)
    (hu2 : ∀ d f, wu2 (ix3 0 d f) = Wu d ⟨1536 + f, by omega⟩) (hu3 : ∀ d f, wu3 (ix3 0 d f) = Wu d ⟨2304 + f, by omega⟩)
    (r : Fin 512) (d : Fin 1024) :
    ffn md x9 x10 wg0 wg1 wg2 wg3 wu0 wu1 wu2 wu3 wd (ix3 0 r d)
      = ff (fun d => x9 (ix2 0 d)) (fun d => x10 (ix2 0 d)) Wg Wu (fun f d => wd (ix3 0 f d)) (fun d => md (ix2 r d)) d := by
  unfold ffn
  rw [o_at]
  unfold ff down
  refine congrArg₂ (· + ·) rfl (congrArg (fun x => rms c1024 x (fun d => x10 (ix2 0 d)) d) (funext fun d => ?_))
  refine d_at _ _ _ _ _ wd r d (act (fun d => x9 (ix2 0 d)) Wg Wu (fun d => md (ix2 r d))) (fun f => ?_) (fun f => ?_) (fun f => ?_) fun f => ?_
  · rw [a0_at, g0_at]
    simp only [n_at, hg0, hu0]
    rfl
  · rw [a1_at]
    simp only [n_at, hg1, hu1]
    rfl
  · rw [a2_at]
    simp only [n_at, hg2, hu2]
    rfl
  · rw [g3_at, u3_at]
    simp only [n_at, hg3, hu3]
    rfl
end Cert.KernelFfn
end
-- ==== Proof.KernelOut.lean ====
/- What the kernel's result array holds after the run: the layer's output. -/
module

public import proofs.«01_k».proof.Proof.KernelGrid
public import proofs.«01_k».proof.Proof.KernelFfn
public import proofs.«01_k».proof.Proof.Gen.KernelIdeal.Value

@[expose] public section

set_option maxRecDepth 16384

noncomputable section

namespace Cert.KernelOut

open Idealize.ShloMosaic Idealize.ShloMosaic.TcCoe Idealize.ShloMosaic.StableHlo
open Idealize.SL.Sem Cert.KernelIdeal Cert.KernelIdeal.Gen Cert.Spec Cert.Chunk Cert.Tile Cert.Match Cert.KernelReads

variable (m : (ℓ : Loc nD τ sig) → Buf (Elt Ideal) ℓ) (c : Dev nD)

/-- A chunk of columns of a block, at an index. -/
theorem cut_at {n0 n1 n2 k : ℕ} {e : EltTy} (o : ℕ) (ho : o + k ≤ n2) (h : 0 + n0 ≤ n0 ∧ 0 + n1 ≤ n1 ∧ o + k ≤ n2)
    (M : Memref sig .tc .vmem ⟨3, ![n0, n1, n2]⟩ e) (hM : M.IsWhole) (X : Vec Ideal ⟨3, ![n0, n1, n2]⟩ e) (i : Fin n0) (d : Fin n1) (f : Fin k) :
    rb3 0 0 o n0 n1 k h M hM X (ix3 i d f) = X (ix3 i d ⟨o + f, by omega⟩) := by
  unfold rb3
  rw [View.readAt_eq_ld, hM.read_unread]
  refine congrArg X (funext fun a => Fin.ext ?_)
  match a with
  | ⟨0, _⟩ => show 0 + 1 * (i : ℕ) = i; omega
  | ⟨1, _⟩ => show 0 + 1 * (d : ℕ) = d; omega
  | ⟨2, _⟩ => show o + 1 * (f : ℕ) = o + f; omega

/-- The output's block is never written out at the first point. -/
theorem flush_pos : ∀ t : Fin cfg0.N, (cfg0.win 14).flush t = true → t.val ≠ 0 := by decide +kernel

section
variable (hA : (args m c).Ok) (t : Fin cfg0.N) (h1 : t.val ≠ 0) (b : Fin 16) (hb : (b : ℕ) = (t.val - 1) / 4)
include hA h1 hb

/-- What a grid point but the first stores: the layer's output at the tile before it. -/
theorem out_at (r : Fin 512) (d : Fin 1024) (s : Fin 2048) (hs' : (s : ℕ) = (t.val - 1) % 4 * 512 + r) :
    (outsAt0 m c t.val t.isLt).1 (ix3 0 r d) = (args m c).out b s d := by
  have hN : t.val < 65 := lt_of_lt_of_eq t.isLt N_0
  have hmd : (fun d => (prevO m c t).2.2.2.2 (ix2 r d)) = (args m c).x1 b s :=
    funext fun d => KernelGrid.leaves_mid m c hA ⟨t.val - 1, by omega⟩ (by simp only; omega) b hb r d s hs'
  rw [StepK.out_eq m c t h1]
  unfold ffnB
  simp only [rd2_eq]
  refine (KernelFfn.ffn_at _ _ _ _ _ _ _ _ _ _ _ _ (args m c).wg (args m c).wu ?_ ?_ ?_ ?_ ?_ ?_ ?_ ?_ r d).trans ?_
  · intro d f; rw [cut_at 0 (by omega)]; exact (KernelBlocks.wg_at m c t d _).trans (congrArg ((args m c).wg d) (Fin.ext (by simp only; omega)))
  · intro d f; rw [cut_at 768 (by omega)]; exact KernelBlocks.wg_at m c t d _
  · intro d f; rw [cut_at 1536 (by omega)]; exact KernelBlocks.wg_at m c t d _
  · intro d f; rw [cut_at 2304 (by omega)]; exact KernelBlocks.wg_at m c t d _
  · intro d f; rw [cut_at 0 (by omega)]; exact (KernelBlocks.wu_at m c t d _).trans (congrArg ((args m c).wu d) (Fin.ext (by simp only; omega)))
  · intro d f; rw [cut_at 768 (by omega)]; exact KernelBlocks.wu_at m c t d _
  · intro d f; rw [cut_at 1536 (by omega)]; exact KernelBlocks.wu_at m c t d _
  · intro d f; rw [cut_at 2304 (by omega)]; exact KernelBlocks.wu_at m c t d _
  · have e9 : (fun d => iblk m c 9 t (ix2 0 d)) = (args m c).g3 := funext fun d => KernelBlocks.g3_at m c t d
    have e10 : (fun d => iblk m c 10 t (ix2 0 d)) = (args m c).g4 := funext fun d => KernelBlocks.g4_at m c t d
    have e13 : (fun f d => rb3 0 0 0 1 2816 1024 (by decide) (ms0_13 t) (hs0_13 t) (iblk m c 13 t) (ix3 0 f d)) = (args m c).wd :=
      funext fun f => funext fun d => (cut_at 0 (by omega) _ _ _ _ 0 f d).trans
        ((KernelBlocks.wd_at m c t f _).trans (congrArg ((args m c).wd f) (Fin.ext (by simp only; omega))))
    unfold Args.out
    rw [← hmd, ← e9, ← e10, ← e13]
end

/-- The result array after the run. -/
theorem result (hA : (args m c).Ok) : (dats m 0 c).arrAt 14 cfg0.N = fun i => (args m c).out (i 0) (i 1) (i 2) := by
  refine (dats m 0 c).arrAt_eq_of_covers 14 _ (by decide +kernel) fun t hf y => ?_
  have hN : t.val < 65 := lt_of_lt_of_eq t.isLt N_0
  blk_simp
  rw [after0_14]
  idx_vars y
  obtain rfl : y0 = 0 := Subsingleton.elim (α := Fin 1) _ _
  have e : (win0_14.blk t).view.emb (ix3 0 y1 y2) = ix3 ⟨(t.val - 1) / 4, by omega⟩ ⟨(t.val - 1) % 4 * 512 + y1, by omega⟩ y2 := by
    blk_ext [KernelBlocks.idx_out t]
  refine (out_at m c hA t (flush_pos t hf) ⟨(t.val - 1) / 4, by omega⟩ rfl y1 y2 ⟨(t.val - 1) % 4 * 512 + y1, by omega⟩ rfl).trans ?_
  rw [e]
  rfl
end Cert.KernelOut
end
-- ==== Proof.Finite.lean ====
/- What the precondition says: the gain of the mixer's norm, the input projection and its bias hold real numbers. -/
module

public import proofs.«01_k».proof.Pre_finite
public import proofs.«01_k».proof.Proof.Spec
public import Idealize.ShloMosaic.Lib.ReduceAll
public import Idealize.ShloMosaic.Lib.Pipeline.ValueKit

@[expose] public section

set_option maxRecDepth 16384

noncomputable section

namespace Cert.Finite

open Idealize.ShloMosaic Cert.Pre_finite Cert.Spec

/-- The shape relations the precondition's operations take. -/
theorem facts : Cert.Pre_finite.Facts where
  slices_S2x1024_S1x1024_1_0 := by decide
  shapeCasts_S1x1024_S1024 := by decide
  bcast_S_S1024 := by decide
  reducesTo_S1024_S_d0 := by decide
  h_S_ := by decide
  bcast_S_S1x1024x3088 := by decide
  reducesTo_S1x1024x3088_S_d0_1_2 := by decide
  bcast_S_S1x3088 := by decide
  reducesTo_S1x3088_S_d0_1 := by decide

/-- A number whose absolute value compares below infinity is real. -/
theorem re_of_lt {x : EReal} (h : BitVec.ofBool (decide (max x (-x) < Ideal.ofBits .f32 0x7F800000#32)) = 1#1) : Re x := by
  have h' : max x (-x) < ⊤ := by
    by_contra hn
    rw [decide_eq_false fun hl => hn (hl.trans_le le_top)] at h
    exact absurd h (by decide)
  rw [max_lt_iff] at h'
  refine Re.of h'.1.ne fun e => ?_
  rw [e] at h'
  exact absurd h'.2 (by simp)

/-- A conjunction of two truth values is true only where both are. -/
theorem both {a b : BitVec 1} (h : a &&& b = 1#1) : a = 1#1 ∧ b = 1#1 := by
  revert a b; decide

variable [Facts] {x0 : FVec Ideal S16x2048x1024 .f32} {x1 x2 x3 x4 : FVec Ideal S2x1024 .f32} {x5 : FVec Ideal S1x1024x3088 .f32}
  {x6 : FVec Ideal S1x3088 .f32} {x7 : FVec Ideal S1x1024 .f32} {x8 : FVec Ideal S1x1024x1024 .f32} {x9 x10 : FVec Ideal S2x1024x2816 .f32}
  {x11 : FVec Ideal S2x2816x1024 .f32}

/-- Where the precondition holds, the three arrays it names hold real numbers. -/
theorem reals (h : fn (F := Ideal) x0 x1 x2 x3 x4 x5 x6 x7 x8 x9 x10 x11 = fun _ => 1#1) :
    (∀ d : Fin 1024, Re (x1 (ix2 1 d))) ∧ (∀ (d : Fin 1024) (e : Fin 3088), Re (x5 (ix3 0 d e))) ∧ ∀ e : Fin 3088, Re (x6 (ix2 0 e)) := by
  have h0 := congrFun h (fun a => a.elim0)
  obtain ⟨h1, h2⟩ := both h0
  obtain ⟨h3, h4⟩ := both h1
  haveI : Subsingleton S_.Idx := ⟨fun a b => funext fun i => i.elim0⟩
  refine ⟨fun d => ?_, fun d e => ?_, fun e => ?_⟩
  · have := Host.reduce_andi_all _ _ _ _ _ h3 (ix1 d)
    revert this
    pointwise
    exact re_of_lt
  · have := Host.reduce_andi_all _ _ _ _ _ h4 (ix3 0 d e)
    revert this
    pointwise
    exact re_of_lt
  · have := Host.reduce_andi_all _ _ _ _ _ h2 (ix2 0 e)
    revert this
    pointwise
    exact re_of_lt

end Cert.Finite

end
-- ==== Proof.lean ====
/- The claims, assembled from the modules that prove them. -/
module

public import proofs.«01_k».proof.Defs
public import proofs.«01_k».proof.Proof.Gen.Kernel.Frame
public import proofs.«01_k».proof.Proof.RefFrame
public import proofs.«01_k».proof.Proof.RefPost
public import proofs.«01_k».proof.Proof.KernelOut
public import proofs.«01_k».proof.Proof.Finite
public import Idealize.ShloMosaic.Lib.Claim

@[expose] public section

noncomputable section

namespace Cert.Proof

open Idealize.ShloMosaic Idealize.SL.Sem

/-- The kernel terminates, leaves its arguments as they were and every semaphore at zero. -/
theorem frame_p : Cert.quiescent_Kernel (hKernel := Cert.Kernel.Gen.facts) :=
  fun m ρ _ => Cert.Kernel.Gen.frame m ρ

/-- The same of the kernel read over the ideal numbers. -/
theorem frame_pi : Cert.quiescent_KernelIdeal (hKernelIdeal := Cert.KernelIdeal.Gen.facts) :=
  fun m ρ _ => Cert.KernelIdeal.Gen.frame m ρ

open Cert.ReferenceIdeal Cert.ReferenceIdeal.Gen Cert.ReferenceIdeal.Value in
/-- The reference's run: the result array as computed, every argument as it was. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v128) = StableHlo.finalContents condOps preI bodyI postI 32 m c (Proc.devRef .tc main_v128)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono
    (fun r h c => ⟨h c main_v128 rfl,
      (h c main_arg0 rfl).trans (Cert.RefFrame.arg_kept m c (by simp)),
      (h c main_arg1 rfl).trans (Cert.RefFrame.arg_kept m c (by simp)),
      (h c main_arg2 rfl).trans (Cert.RefFrame.arg_kept m c (by simp)),
      (h c main_arg3 rfl).trans (Cert.RefFrame.arg_kept m c (by simp)),
      (h c main_arg4 rfl).trans (Cert.RefFrame.arg_kept m c (by simp)),
      (h c main_arg5 rfl).trans (Cert.RefFrame.arg_kept m c (by simp)),
      (h c main_arg6 rfl).trans (Cert.RefFrame.arg_kept m c (by simp)),
      (h c main_arg7 rfl).trans (Cert.RefFrame.arg_kept m c (by simp)),
      (h c main_arg8 rfl).trans (Cert.RefFrame.arg_kept m c (by simp)),
      (h c main_arg9 rfl).trans (Cert.RefFrame.arg_kept m c (by simp)),
      (h c main_arg10 rfl).trans (Cert.RefFrame.arg_kept m c (by simp)),
      (h c main_arg11 rfl).trans (Cert.RefFrame.arg_kept m c (by simp))⟩)
    (Cert.ReferenceIdeal.Value.run_fold (F := Ideal) m ρ)

open Cert.ReferenceIdeal in
/-- The reference terminates, leaves its arguments as they were and every semaphore at zero. -/
theorem frame_ri : Cert.quiescent_ReferenceIdeal (hReferenceIdeal := Cert.ReferenceIdeal.Gen.facts) :=
  fun m ρ _ => (θ_run defs _ _).mono (fun r h => ⟨fun c => (h c).2, sem_eq_zero_of_no_sems rfl r.2⟩) (run_ref m ρ)

/-- The kernel's arguments, where the precondition holds, are as the layer needs them. -/
theorem kernel_ok (m : (ℓ : Loc Cert.KernelIdeal.nD Cert.KernelIdeal.τ Cert.KernelIdeal.sig) → Buf (Elt Ideal) ℓ)
    (h : Cert.Pre_KernelIdeal_finite (hPre_finite := Cert.Finite.facts) m) (c : Dev Cert.KernelIdeal.nD) :
    (Cert.KernelReads.args m c).Ok := by
  haveI := Cert.Finite.facts
  obtain ⟨h1, h2, h3⟩ := Cert.Finite.reals (h c)
  exact ⟨h1, h2, h3⟩

/-- The kernel and the reference, on the same arguments, end with the same result. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m g m' g' hpre hagree
  have hargs : ∀ c, Cert.RefEntry.args m' c = Cert.KernelReads.args m c := fun c => by
    obtain ⟨e0, e1, e2, e3, e4, e5, e6, e7, e8, e9, e10, e11⟩ := hagree c
    unfold Cert.RefEntry.args Cert.KernelReads.args
    congr 1
    · exact funext fun b => funext fun t => funext fun d => congrFun e0 _
    · exact funext fun d => congrFun e1 _
    · exact funext fun d => congrFun e2 _
    · exact funext fun d => congrFun e3 _
    · exact funext fun d => congrFun e4 _
    · exact funext fun d => funext fun e => congrFun e5 _
    · exact funext fun d => congrFun e6 _
    · exact funext fun d => congrFun e7 _
    · exact funext fun d => funext fun e => congrFun e8 _
    · exact funext fun d => funext fun e => congrFun e9 _
    · exact funext fun d => funext fun e => congrFun e10 _
    · exact funext fun d => funext fun e => congrFun e11 _
  refine ⟨fun c i => (Cert.KernelReads.args m c).out (i 0) (i 1) (i 2), ?_, ?_⟩
  · exact (θ_run Cert.KernelIdeal.defs _ _).mono
      (fun r h c => ⟨(h c).1.trans (Cert.KernelOut.result m c (kernel_ok m hpre c)), (h c).2⟩)
      (Cert.KernelIdeal.Value.run_blocks (F := Ideal) m g)
  · refine (θ_run Cert.ReferenceIdeal.defs _ _).mono (fun r h c => ⟨(h c).1.trans (funext fun i => ?_), (h c).2⟩) (run_ref m' g')
    have hA : (Cert.RefEntry.args m' c).Ok := hargs c ▸ kernel_ok m hpre c
    have e : i = ix3 (i 0) (i 1) (i 2) := funext fun k => by fin_cases k <;> rfl
    refine (congrArg _ e).trans ((Cert.RefPost.result m' c hA (i 0) (i 1) (i 2)).trans ?_)
    rw [hargs c]

/-- All the claims. -/
theorem claim : Cert.Claim := ⟨Cert.Kernel.Gen.facts, Cert.KernelIdeal.Gen.facts, Cert.ReferenceIdeal.Gen.facts, Cert.Finite.facts,
  frame_p, frame_pi, fun m ρ _ => frame_pi m ρ trivial, frame_ri, fun m ρ _ => frame_ri m ρ trivial, trivial, algebraic⟩

end Cert.Proof

end
